-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 2048]⟩ ⟨2, ![4096, 2048]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S4096x512 : Shape := ⟨2, ![4096, 512]⟩
abbrev S6 : Shape := ⟨1, ![6]⟩
abbrev S3 : Shape := ⟨1, ![3]⟩
abbrev S_ : Shape := ⟨0, ![]⟩
abbrev S1 : Shape := ⟨1, ![1]⟩
abbrev S128x512 : Shape := ⟨2, ![128, 512]⟩
abbrev S1024x512 : Shape := ⟨2, ![1024, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x2048, .f32⟩
  | .hbm, ⟨1, _⟩ => ⟨S4096x512, .f32⟩
  | .local _ .vmem, ⟨0, _⟩ => ⟨S1024x2048, .f32⟩
  | .local _ .vmem, ⟨1, _⟩ => ⟨S4096x512, .f32⟩
  | _, _ => ⟨S1024x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v22 : BitVec 32 := Scalar.muli v2 c8_i32_12
  let v23 : BitVec 32 := Scalar.addi c0_i32 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v24 : BitVec 32 := Scalar.muli v5 c4_i32_13
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v20 : BitVec 32 := Scalar.addi v8 c1_i32_9
  let c4_i32_10 : BitVec 32 := 4#32
  let v21 : BitVec 32 := Scalar.remsi v20 c4_i32_10
  let c1_i32_14 : BitVec 32 := 1#32
  let v26 : BitVec 32 := Scalar.muli v21 c1_i32_14
  let v27 : BitVec 32 := Scalar.addi v25 v26
  v27.toNat
def k0_dev2 (d0 : Dev nD) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v30 : BitVec 32 := Scalar.muli v2 c8_i32_18
  let v31 : BitVec 32 := Scalar.addi c0_i32_19 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v32 : BitVec 32 := Scalar.muli v5 c4_i32_20
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let v28 : BitVec 32 := Scalar.addi v8 c2_i32_15
  let c4_i32_16 : BitVec 32 := 4#32
  let v29 : BitVec 32 := Scalar.remsi v28 c4_i32_16
  let c1_i32_21 : BitVec 32 := 1#32
  let v34 : BitVec 32 := Scalar.muli v29 c1_i32_21
  let v35 : BitVec 32 := Scalar.addi v33 v34
  v35.toNat
def k0_dev3 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v38 : BitVec 32 := Scalar.muli v2 c8_i32_24
  let v39 : BitVec 32 := Scalar.addi c0_i32_25 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v40 : BitVec 32 := Scalar.muli v5 c4_i32_26
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v36 : BitVec 32 := Scalar.addi v8 c3_i32
  let c4_i32_22 : BitVec 32 := 4#32
  let v37 : BitVec 32 := Scalar.remsi v36 c4_i32_22
  let c1_i32_27 : BitVec 32 := 1#32
  let v42 : BitVec 32 := Scalar.muli v37 c1_i32_27
  let v43 : BitVec 32 := Scalar.addi v41 v42
  v43.toNat
def k0_dev4 (d0 : Dev nD) : Nat :=
  let c0_i32_30 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_29 : BitVec 32 := 8#32
  let v44 : BitVec 32 := Scalar.muli v17 c8_i32_29
  let v45 : BitVec 32 := Scalar.addi c0_i32_30 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v46 : BitVec 32 := Scalar.muli v5 c4_i32_31
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v48 : BitVec 32 := Scalar.muli v8 c1_i32_32
  let v49 : BitVec 32 := Scalar.addi v47 v48
  v49.toNat
def k0_dev5 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v50 : BitVec 32 := Scalar.muli v2 c8_i32_34
  let v51 : BitVec 32 := Scalar.addi c0_i32_35 v50
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_36 : BitVec 32 := 4#32
  let v52 : BitVec 32 := Scalar.muli v18 c4_i32_36
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v54 : BitVec 32 := Scalar.muli v8 c1_i32_37
  let v55 : BitVec 32 := Scalar.addi v53 v54
  v55.toNat
def k0_off1 (d0 : Dev nD) (c0_i32_42 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v61 : BitVec 32 := Scalar.muli v8 c1024_i32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_41 : BitVec 32 := 256#32
  let v62 : BitVec 32 := Scalar.muli v10 c256_i32_41
  let v63 : BitVec 32 := Scalar.addi v61 v62
  let v64 : BitVec 32 := Scalar.addi v63 c0_i32_42
  let c0_i32_49 : BitVec 32 := 0#32
  ![v64.toNat, 0]
def k0_off2 (d0 : Dev nD) (c0_i32_40 : BitVec 32) (c1_i32_38 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v58 : BitVec 32 := Scalar.muli v10 c256_i32
  let v59 : BitVec 32 := Scalar.addi v58 c0_i32_40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v56 : BitVec 32 := Scalar.addi v8 c1_i32_38
  let c4_i32_39 : BitVec 32 := 4#32
  let v57 : BitVec 32 := Scalar.remsi v56 c4_i32_39
  let c512_i32 : BitVec 32 := 512#32
  let v60 : BitVec 32 := Scalar.muli v57 c512_i32
  ![v59.toNat, v60.toNat]
def k0_dev6 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v65 : BitVec 32 := Scalar.muli v2 c8_i32_45
  let v66 : BitVec 32 := Scalar.addi c0_i32_46 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v67 : BitVec 32 := Scalar.muli v5 c4_i32_47
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.addi v8 c1_i32_38
  let c4_i32_39 : BitVec 32 := 4#32
  let v57 : BitVec 32 := Scalar.remsi v56 c4_i32_39
  let c1_i32_48 : BitVec 32 := 1#32
  let v69 : BitVec 32 := Scalar.muli v57 c1_i32_48
  let v70 : BitVec 32 := Scalar.addi v68 v69
  v70.toNat
def k0_dev7 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v84 : BitVec 32 := Scalar.muli v2 c8_i32_57
  let v85 : BitVec 32 := Scalar.addi c0_i32_58 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v86 : BitVec 32 := Scalar.muli v5 c4_i32_59
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.addi v8 c1_i32_38
  let c4_i32_39 : BitVec 32 := 4#32
  let v57 : BitVec 32 := Scalar.remsi v56 c4_i32_39
  let c1_i32_60 : BitVec 32 := 1#32
  let v88 : BitVec 32 := Scalar.muli v57 c1_i32_60
  let v89 : BitVec 32 := Scalar.addi v87 v88
  v89.toNat
def k0_dev8 (d0 : Dev nD) : Nat :=
  let c0_i32_73 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_72 : BitVec 32 := 8#32
  let v105 : BitVec 32 := Scalar.muli v2 c8_i32_72
  let v106 : BitVec 32 := Scalar.addi c0_i32_73 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_74 : BitVec 32 := 4#32
  let v107 : BitVec 32 := Scalar.muli v5 c4_i32_74
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_62 : BitVec 32 := 2#32
  let v96 : BitVec 32 := Scalar.addi v8 c2_i32_62
  let c4_i32_63 : BitVec 32 := 4#32
  let v97 : BitVec 32 := Scalar.remsi v96 c4_i32_63
  let c1_i32_75 : BitVec 32 := 1#32
  let v109 : BitVec 32 := Scalar.muli v97 c1_i32_75
  let v110 : BitVec 32 := Scalar.addi v108 v109
  v110.toNat
def k0_dev9 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v124 : BitVec 32 := Scalar.muli v2 c8_i32_85
  let v125 : BitVec 32 := Scalar.addi c0_i32_86 v124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v126 : BitVec 32 := Scalar.muli v5 c4_i32_87
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_62 : BitVec 32 := 2#32
  let v96 : BitVec 32 := Scalar.addi v8 c2_i32_62
  let c4_i32_63 : BitVec 32 := 4#32
  let v97 : BitVec 32 := Scalar.remsi v96 c4_i32_63
  let c1_i32_88 : BitVec 32 := 1#32
  let v128 : BitVec 32 := Scalar.muli v97 c1_i32_88
  let v129 : BitVec 32 := Scalar.addi v127 v128
  v129.toNat
def k0_dev10 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v145 : BitVec 32 := Scalar.muli v2 c8_i32_100
  let v146 : BitVec 32 := Scalar.addi c0_i32_101 v145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v147 : BitVec 32 := Scalar.muli v5 c4_i32_102
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_90 : BitVec 32 := 3#32
  let v136 : BitVec 32 := Scalar.addi v8 c3_i32_90
  let c4_i32_91 : BitVec 32 := 4#32
  let v137 : BitVec 32 := Scalar.remsi v136 c4_i32_91
  let c1_i32_103 : BitVec 32 := 1#32
  let v149 : BitVec 32 := Scalar.muli v137 c1_i32_103
  let v150 : BitVec 32 := Scalar.addi v148 v149
  v150.toNat
def k0_dev11 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v164 : BitVec 32 := Scalar.muli v2 c8_i32_113
  let v165 : BitVec 32 := Scalar.addi c0_i32_114 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v166 : BitVec 32 := Scalar.muli v5 c4_i32_115
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_90 : BitVec 32 := 3#32
  let v136 : BitVec 32 := Scalar.addi v8 c3_i32_90
  let c4_i32_91 : BitVec 32 := 4#32
  let v137 : BitVec 32 := Scalar.remsi v136 c4_i32_91
  let c1_i32_116 : BitVec 32 := 1#32
  let v168 : BitVec 32 := Scalar.muli v137 c1_i32_116
  let v169 : BitVec 32 := Scalar.addi v167 v168
  v169.toNat
def k0_off3 (d0 : Dev nD) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_118 : BitVec 32 := 512#32
  let v176 : BitVec 32 := Scalar.muli v8 c512_i32_118
  let v177 : Index := Scalar.indexCast v176
  ![0, v177.toNat]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_119 : BitVec 32 := 1024#32
  let v180 : BitVec 32 := Scalar.muli v8 c1024_i32_119
  let v181 : Index := Scalar.indexCast v180
  let c0_120 : Index := 0#32
  ![v181.toNat, 0]
def k0_off5 (d0 : Dev nD) (c0_i32_121 : BitVec 32) (c0_i32_133 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v183 : BitVec 32 := Scalar.addi v8 c0_i32_121
  let c1_i32_122 : BitVec 32 := 1#32
  let v184 : BitVec 32 := Scalar.addi v183 c1_i32_122
  let c4_i32_123 : BitVec 32 := 4#32
  let v185 : BitVec 32 := Scalar.remsi v184 c4_i32_123
  let c1024_i32_131 : BitVec 32 := 1024#32
  let v196 : BitVec 32 := Scalar.muli v185 c1024_i32_131
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_132 : BitVec 32 := 256#32
  let v197 : BitVec 32 := Scalar.muli v10 c256_i32_132
  let v198 : BitVec 32 := Scalar.addi v196 v197
  let v199 : BitVec 32 := Scalar.addi v198 c0_i32_133
  let c0_i32_140 : BitVec 32 := 0#32
  ![v199.toNat, 0]
def k0_dev12 (d0 : Dev nD) : Nat :=
  let c0_i32_137 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_136 : BitVec 32 := 8#32
  let v200 : BitVec 32 := Scalar.muli v17 c8_i32_136
  let v201 : BitVec 32 := Scalar.addi c0_i32_137 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_138 : BitVec 32 := 4#32
  let v202 : BitVec 32 := Scalar.muli v5 c4_i32_138
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v204 : BitVec 32 := Scalar.muli v8 c1_i32_139
  let v205 : BitVec 32 := Scalar.addi v203 v204
  v205.toNat
def k0_dev13 (d0 : Dev nD) : Nat :=
  let c0_i32_145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_144 : BitVec 32 := 8#32
  let v212 : BitVec 32 := Scalar.muli v2 c8_i32_144
  let v213 : BitVec 32 := Scalar.addi c0_i32_145 v212
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_146 : BitVec 32 := 4#32
  let v214 : BitVec 32 := Scalar.muli v18 c4_i32_146
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v216 : BitVec 32 := Scalar.muli v8 c1_i32_147
  let v217 : BitVec 32 := Scalar.addi v215 v216
  v217.toNat
def k0_dev14 (d0 : Dev nD) : Nat :=
  let c0_i32_163 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_162 : BitVec 32 := 8#32
  let v238 : BitVec 32 := Scalar.muli v17 c8_i32_162
  let v239 : BitVec 32 := Scalar.addi c0_i32_163 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v240 : BitVec 32 := Scalar.muli v5 c4_i32_164
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v242 : BitVec 32 := Scalar.muli v8 c1_i32_165
  let v243 : BitVec 32 := Scalar.addi v241 v242
  v243.toNat
def k0_dev15 (d0 : Dev nD) : Nat :=
  let c0_i32_171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_170 : BitVec 32 := 8#32
  let v250 : BitVec 32 := Scalar.muli v2 c8_i32_170
  let v251 : BitVec 32 := Scalar.addi c0_i32_171 v250
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_172 : BitVec 32 := 4#32
  let v252 : BitVec 32 := Scalar.muli v18 c4_i32_172
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v254 : BitVec 32 := Scalar.muli v8 c1_i32_173
  let v255 : BitVec 32 := Scalar.addi v253 v254
  v255.toNat
def k0_dev16 (d0 : Dev nD) : Nat :=
  let c0_i32_192 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_191 : BitVec 32 := 8#32
  let v279 : BitVec 32 := Scalar.muli v17 c8_i32_191
  let v280 : BitVec 32 := Scalar.addi c0_i32_192 v279
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v281 : BitVec 32 := Scalar.muli v5 c4_i32_193
  let v282 : BitVec 32 := Scalar.addi v280 v281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v283 : BitVec 32 := Scalar.muli v8 c1_i32_194
  let v284 : BitVec 32 := Scalar.addi v282 v283
  v284.toNat
def k0_dev17 (d0 : Dev nD) : Nat :=
  let c0_i32_200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199 : BitVec 32 := 8#32
  let v291 : BitVec 32 := Scalar.muli v2 c8_i32_199
  let v292 : BitVec 32 := Scalar.addi c0_i32_200 v291
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_201 : BitVec 32 := 4#32
  let v293 : BitVec 32 := Scalar.muli v18 c4_i32_201
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v295 : BitVec 32 := Scalar.muli v8 c1_i32_202
  let v296 : BitVec 32 := Scalar.addi v294 v295
  v296.toNat
def k0_dev18 (d0 : Dev nD) : Nat :=
  let c0_i32_218 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_217 : BitVec 32 := 8#32
  let v317 : BitVec 32 := Scalar.muli v17 c8_i32_217
  let v318 : BitVec 32 := Scalar.addi c0_i32_218 v317
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_219 : BitVec 32 := 4#32
  let v319 : BitVec 32 := Scalar.muli v5 c4_i32_219
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v321 : BitVec 32 := Scalar.muli v8 c1_i32_220
  let v322 : BitVec 32 := Scalar.addi v320 v321
  v322.toNat
def k0_dev19 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v329 : BitVec 32 := Scalar.muli v2 c8_i32_225
  let v330 : BitVec 32 := Scalar.addi c0_i32_226 v329
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_227 : BitVec 32 := 4#32
  let v331 : BitVec 32 := Scalar.muli v18 c4_i32_227
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v333 : BitVec 32 := Scalar.muli v8 c1_i32_228
  let v334 : BitVec 32 := Scalar.addi v332 v333
  v334.toNat
def k0_dev20 (d0 : Dev nD) : Nat :=
  let c0_i32_247 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_246 : BitVec 32 := 8#32
  let v358 : BitVec 32 := Scalar.muli v17 c8_i32_246
  let v359 : BitVec 32 := Scalar.addi c0_i32_247 v358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_248 : BitVec 32 := 4#32
  let v360 : BitVec 32 := Scalar.muli v5 c4_i32_248
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v362 : BitVec 32 := Scalar.muli v8 c1_i32_249
  let v363 : BitVec 32 := Scalar.addi v361 v362
  v363.toNat
def k0_dev21 (d0 : Dev nD) : Nat :=
  let c0_i32_255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_254 : BitVec 32 := 8#32
  let v370 : BitVec 32 := Scalar.muli v2 c8_i32_254
  let v371 : BitVec 32 := Scalar.addi c0_i32_255 v370
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_256 : BitVec 32 := 4#32
  let v372 : BitVec 32 := Scalar.muli v18 c4_i32_256
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v374 : BitVec 32 := Scalar.muli v8 c1_i32_257
  let v375 : BitVec 32 := Scalar.addi v373 v374
  v375.toNat
def k0_dev22 (d0 : Dev nD) : Nat :=
  let c0_i32_273 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_272 : BitVec 32 := 8#32
  let v396 : BitVec 32 := Scalar.muli v17 c8_i32_272
  let v397 : BitVec 32 := Scalar.addi c0_i32_273 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_274 : BitVec 32 := 4#32
  let v398 : BitVec 32 := Scalar.muli v5 c4_i32_274
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v400 : BitVec 32 := Scalar.muli v8 c1_i32_275
  let v401 : BitVec 32 := Scalar.addi v399 v400
  v401.toNat
def k0_dev23 (d0 : Dev nD) : Nat :=
  let c0_i32_281 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_280 : BitVec 32 := 8#32
  let v408 : BitVec 32 := Scalar.muli v2 c8_i32_280
  let v409 : BitVec 32 := Scalar.addi c0_i32_281 v408
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_282 : BitVec 32 := 4#32
  let v410 : BitVec 32 := Scalar.muli v18 c4_i32_282
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v412 : BitVec 32 := Scalar.muli v8 c1_i32_283
  let v413 : BitVec 32 := Scalar.addi v411 v412
  v413.toNat
def k0_off6 (d0 : Dev nD) (c0_i32_286 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v420 : BitVec 32 := Scalar.addi v8 c0_i32_286
  let c1_i32_287 : BitVec 32 := 1#32
  let v421 : BitVec 32 := Scalar.addi v420 c1_i32_287
  let c4_i32_288 : BitVec 32 := 4#32
  let v422 : BitVec 32 := Scalar.remsi v421 c4_i32_288
  let c1024_i32_297 : BitVec 32 := 1024#32
  let v433 : BitVec 32 := Scalar.muli v422 c1024_i32_297
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_298 : BitVec 32 := 256#32
  let v434 : BitVec 32 := Scalar.muli v13 c256_i32_298
  let v435 : BitVec 32 := Scalar.addi v433 v434
  let c0_i32_305 : BitVec 32 := 0#32
  ![v435.toNat, 0]
def k0_dev24 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v436 : BitVec 32 := Scalar.muli v2 c8_i32_301
  let v437 : BitVec 32 := Scalar.addi c0_i32_302 v436
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_303 : BitVec 32 := 4#32
  let v438 : BitVec 32 := Scalar.muli v18 c4_i32_303
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v440 : BitVec 32 := Scalar.muli v8 c1_i32_304
  let v441 : BitVec 32 := Scalar.addi v439 v440
  v441.toNat
def k0_off7 (d0 : Dev nD) (c0_i32_286 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v420 : BitVec 32 := Scalar.addi v8 c0_i32_286
  let c1_i32_287 : BitVec 32 := 1#32
  let v421 : BitVec 32 := Scalar.addi v420 c1_i32_287
  let c4_i32_288 : BitVec 32 := 4#32
  let v422 : BitVec 32 := Scalar.remsi v421 c4_i32_288
  let c1024_i32_315 : BitVec 32 := 1024#32
  let v458 : BitVec 32 := Scalar.muli v422 c1024_i32_315
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_316 : BitVec 32 := 256#32
  let v459 : BitVec 32 := Scalar.muli v16 c256_i32_316
  let v460 : BitVec 32 := Scalar.addi v458 v459
  let c128_i32_317 : BitVec 32 := 128#32
  let v461 : BitVec 32 := Scalar.addi v460 c128_i32_317
  let c0_i32_324 : BitVec 32 := 0#32
  ![v461.toNat, 0]
def k0_dev25 (d0 : Dev nD) : Nat :=
  let c0_i32_321 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_320 : BitVec 32 := 8#32
  let v462 : BitVec 32 := Scalar.muli v17 c8_i32_320
  let v463 : BitVec 32 := Scalar.addi c0_i32_321 v462
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_322 : BitVec 32 := 4#32
  let v464 : BitVec 32 := Scalar.muli v5 c4_i32_322
  let v465 : BitVec 32 := Scalar.addi v463 v464
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v466 : BitVec 32 := Scalar.muli v8 c1_i32_323
  let v467 : BitVec 32 := Scalar.addi v465 v466
  v467.toNat
def k0_dev26 (d0 : Dev nD) : Nat :=
  let c0_i32_342 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_341 : BitVec 32 := 8#32
  let v490 : BitVec 32 := Scalar.muli v2 c8_i32_341
  let v491 : BitVec 32 := Scalar.addi c0_i32_342 v490
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_343 : BitVec 32 := 4#32
  let v492 : BitVec 32 := Scalar.muli v18 c4_i32_343
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v494 : BitVec 32 := Scalar.muli v8 c1_i32_344
  let v495 : BitVec 32 := Scalar.addi v493 v494
  v495.toNat
def k0_dev27 (d0 : Dev nD) : Nat :=
  let c0_i32_361 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_360 : BitVec 32 := 8#32
  let v516 : BitVec 32 := Scalar.muli v17 c8_i32_360
  let v517 : BitVec 32 := Scalar.addi c0_i32_361 v516
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_362 : BitVec 32 := 4#32
  let v518 : BitVec 32 := Scalar.muli v5 c4_i32_362
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v520 : BitVec 32 := Scalar.muli v8 c1_i32_363
  let v521 : BitVec 32 := Scalar.addi v519 v520
  v521.toNat
def k0_dev28 (d0 : Dev nD) : Nat :=
  let c0_i32_382 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_381 : BitVec 32 := 8#32
  let v544 : BitVec 32 := Scalar.muli v2 c8_i32_381
  let v545 : BitVec 32 := Scalar.addi c0_i32_382 v544
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_383 : BitVec 32 := 4#32
  let v546 : BitVec 32 := Scalar.muli v18 c4_i32_383
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_384 : BitVec 32 := 1#32
  let v548 : BitVec 32 := Scalar.muli v8 c1_i32_384
  let v549 : BitVec 32 := Scalar.addi v547 v548
  v549.toNat
def k0_dev29 (d0 : Dev nD) : Nat :=
  let c0_i32_401 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_400 : BitVec 32 := 8#32
  let v570 : BitVec 32 := Scalar.muli v17 c8_i32_400
  let v571 : BitVec 32 := Scalar.addi c0_i32_401 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_402 : BitVec 32 := 4#32
  let v572 : BitVec 32 := Scalar.muli v5 c4_i32_402
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_403 : BitVec 32 := 1#32
  let v574 : BitVec 32 := Scalar.muli v8 c1_i32_403
  let v575 : BitVec 32 := Scalar.addi v573 v574
  v575.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩

abbrev nBuf : Space → Nat
  | .hbm => 1
  | .vmem => 0
  | .smem => 0
  | _ => 0

abbrev bufTy : (tb : Table) → Fin (tcTables nBuf tb) → BufTy
  | .hbm, ⟨0, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Steps.lean ====
/-
# The all-to-all over the `z` axis: the kernel's program as a list of steps

Sixteen devices `c = 8 x + 4 y + z`. Each device cuts its block of `x` in four pieces of 512 columns, one per device of
its `z` line. Of the piece for a peer it sends only a quarter (256 rows, chosen by its own `(x, y)`), in two halves of 128
rows; the peer forwards each half to its neighbours along `x` and along `y`, and these relay one half each to the opposite
corner. So every device makes 24 transfers of 128 × 512 floats: 6 along `z`, 6 direct along `x`, 6 direct along `y`,
3 relays along `x` and 3 along `y`. This file names the transfers (`Copy`), what each reads, writes and counts, the steps
of the kernel (`Step`), and shows that the printed kernel IS the list `allSteps` of them.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.A2A

open Cert.KernelIdeal Cert.KernelIdeal.Gen
open Idealize.ShloMosaic Idealize.ShloMosaic.TcCoe Idealize.SL.Sem

variable {F : FTy → Type} [FloatOps F]

/-- The 24 transfers of a device: `z d h` to the `z` peer `d + 1` further, half `h`; `xd s h`, `yd s h` the direct
    forwards of half `h` of step `s`; `xr s`, `yr s` the relays of step `s`. -/
inductive Copy
  | z (d : Fin 3) (h : Fin 2)
  | xd (s : Fin 3) (h : Fin 2)
  | yd (s : Fin 3) (h : Fin 2)
  | xr (s : Fin 3)
  | yr (s : Fin 3)
  deriving DecidableEq

/-- All 24 transfers, in a list. -/
def copies : List Copy :=
  [.z 0 0, .z 0 1, .z 1 0, .z 1 1, .z 2 0, .z 2 1,
   .xd 0 0, .xd 0 1, .xd 1 0, .xd 1 1, .xd 2 0, .xd 2 1,
   .yd 0 0, .yd 0 1, .yd 1 0, .yd 1 1, .yd 2 0, .yd 2 1,
   .xr 0, .xr 1, .xr 2, .yr 0, .yr 1, .yr 2]

instance : Fintype Copy where
  elems := ⟨copies, by decide⟩
  complete := by
    have h₂ : ∀ i : Fin 2, i = 0 ∨ i = 1 := by decide
    have h₃ : ∀ i : Fin 3, i = 0 ∨ i = 1 ∨ i = 2 := by decide
    intro k
    cases k with
    | z d h => rcases h₃ d with rfl | rfl | rfl <;> rcases h₂ h with rfl | rfl <;> decide
    | xd d h => rcases h₃ d with rfl | rfl | rfl <;> rcases h₂ h with rfl | rfl <;> decide
    | yd d h => rcases h₃ d with rfl | rfl | rfl <;> rcases h₂ h with rfl | rfl <;> decide
    | xr d => rcases h₃ d with rfl | rfl | rfl <;> decide
    | yr d => rcases h₃ d with rfl | rfl | rfl <;> decide

/-- The staging copy of the device's block of `x`. -/
abbrev xM : Memref sig .tc .vmem S1024x2048 .f32 := Memref.whole cc0_stg0_0
/-- The staging copy of the device's block of the result. -/
abbrev oM : Memref sig .tc .vmem S4096x512 .f32 := Memref.whole cc0_stg1_0

/-- The barrier semaphore of the launch. -/
abbrev barS : Sem sig := (SemArray.scalar (sig.barrier 0 rfl) : Sems sig S_).sem

/-- Element `i` of an array of six DMA semaphores, as the kernel slices it. -/
def sem6 (a : DmaSems sig S6) (i : Fin 6) : DmaSem sig := match i with
  | 0 => ((a.slice (Rect.unit (s := S6) ![0] S1.size inb_S6_S1_0)).squeeze S_ squeezes_S1_S_).sem
  | 1 => ((a.slice (Rect.unit (s := S6) ![1] S1.size inb_S6_S1_1)).squeeze S_ squeezes_S1_S_).sem
  | 2 => ((a.slice (Rect.unit (s := S6) ![2] S1.size inb_S6_S1_2)).squeeze S_ squeezes_S1_S_).sem
  | 3 => ((a.slice (Rect.unit (s := S6) ![3] S1.size inb_S6_S1_3)).squeeze S_ squeezes_S1_S_).sem
  | 4 => ((a.slice (Rect.unit (s := S6) ![4] S1.size inb_S6_S1_4)).squeeze S_ squeezes_S1_S_).sem
  | 5 => ((a.slice (Rect.unit (s := S6) ![5] S1.size inb_S6_S1_5)).squeeze S_ squeezes_S1_S_).sem

/-- Element `i` of an array of three DMA semaphores, as the kernel slices it. -/
def sem3 (a : DmaSems sig S3) (i : Fin 3) : DmaSem sig := match i with
  | 0 => ((a.slice (Rect.unit (s := S3) ![0] S1.size inb_S3_S1_0)).squeeze S_ squeezes_S1_S_).sem
  | 1 => ((a.slice (Rect.unit (s := S3) ![1] S1.size inb_S3_S1_1)).squeeze S_ squeezes_S1_S_).sem
  | 2 => ((a.slice (Rect.unit (s := S3) ![2] S1.size inb_S3_S1_2)).squeeze S_ squeezes_S1_S_).sem

/-- `2 s + h`: the place of half `h` of step `s` in an array of six. -/
def pos6 : Fin 3 → Fin 2 → Fin 6
  | 0, 0 => 0 | 0, 1 => 1 | 1, 0 => 2 | 1, 1 => 3 | 2, 0 => 4 | 2, 1 => 5

/-- `2 - d`: the step at which the transfer from the peer `d + 1` before is received. -/
def flip3 : Fin 3 → Fin 3
  | 0 => 2 | 1 => 1 | 2 => 0

/-- The semaphore a transfer's departure is counted on, at the sender. -/
def sendS : Copy → DmaSem sig
  | .z d h => sem6 cc0_scratch0 (pos6 d h)
  | .xd s h => sem6 cc0_scratch2 (pos6 s h)
  | .yd s h => sem6 cc0_scratch4 (pos6 s h)
  | .xr s => sem3 cc0_scratch6 s
  | .yr s => sem3 cc0_scratch8 s

/-- The semaphore a transfer's arrival is counted on, at the receiver. -/
def recvS : Copy → DmaSem sig
  | .z d h => sem6 cc0_scratch1 (pos6 (flip3 d) h)
  | .xd s h => sem6 cc0_scratch3 (pos6 s h)
  | .yd s h => sem6 cc0_scratch5 (pos6 s h)
  | .xr s => sem3 cc0_scratch7 s
  | .yr s => sem3 cc0_scratch9 s

/-- The device a transfer of `c` goes to, as the kernel computes it. -/
def toW (k : Copy) (c : Dev nD) : Dev nD := match k with
  | .z 0 0 => ⟨k0_dev6 c, k0_dev6_lt c⟩
  | .z 0 1 => ⟨k0_dev7 c, k0_dev7_lt c⟩
  | .z 1 0 => ⟨k0_dev8 c, k0_dev8_lt c⟩
  | .z 1 1 => ⟨k0_dev9 c, k0_dev9_lt c⟩
  | .z 2 0 => ⟨k0_dev10 c, k0_dev10_lt c⟩
  | .z 2 1 => ⟨k0_dev11 c, k0_dev11_lt c⟩
  | .xd 0 0 => ⟨k0_dev12 c, k0_dev12_lt c⟩
  | .xd 0 1 => ⟨k0_dev14 c, k0_dev14_lt c⟩
  | .xd 1 0 => ⟨k0_dev16 c, k0_dev16_lt c⟩
  | .xd 1 1 => ⟨k0_dev18 c, k0_dev18_lt c⟩
  | .xd 2 0 => ⟨k0_dev20 c, k0_dev20_lt c⟩
  | .xd 2 1 => ⟨k0_dev22 c, k0_dev22_lt c⟩
  | .yd 0 0 => ⟨k0_dev13 c, k0_dev13_lt c⟩
  | .yd 0 1 => ⟨k0_dev15 c, k0_dev15_lt c⟩
  | .yd 1 0 => ⟨k0_dev17 c, k0_dev17_lt c⟩
  | .yd 1 1 => ⟨k0_dev19 c, k0_dev19_lt c⟩
  | .yd 2 0 => ⟨k0_dev21 c, k0_dev21_lt c⟩
  | .yd 2 1 => ⟨k0_dev23 c, k0_dev23_lt c⟩
  | .xr 0 => ⟨k0_dev25 c, k0_dev25_lt c⟩
  | .xr 1 => ⟨k0_dev27 c, k0_dev27_lt c⟩
  | .xr 2 => ⟨k0_dev29 c, k0_dev29_lt c⟩
  | .yr 0 => ⟨k0_dev24 c, k0_dev24_lt c⟩
  | .yr 1 => ⟨k0_dev26 c, k0_dev26_lt c⟩
  | .yr 2 => ⟨k0_dev28 c, k0_dev28_lt c⟩

/-- The device the `j`-th barrier signal of `c` goes to, as the kernel computes it. -/
def btoW (j : Fin 5) (c : Dev nD) : Dev nD := match j with
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩

/-- A word holding `128 h`. -/
abbrev hW (h : Fin 2) : BitVec 32 := BitVec.ofNat 32 (128 * h.val)

/-- What a transfer of `c` reads. -/
def srcM (k : Copy) (c : Dev nD) : Memref sig .tc .vmem S128x512 .f32 := match k with
  | .z d h => xM.slice (Rect.unit (s := S1024x2048) (k0_off2 c (hW h) (BitVec.ofNat 32 (1 + d.val))) S128x512.size (k0_off2_inb c h d)) (fun _ => rfl)
  | .xd s h => oM.slice (Rect.unit (s := S4096x512) (k0_off5 c (BitVec.ofNat 32 s.val) (hW h)) S128x512.size (k0_off5_inb c s h)) (fun _ => rfl)
  | .yd s h => oM.slice (Rect.unit (s := S4096x512) (k0_off5 c (BitVec.ofNat 32 s.val) (hW h)) S128x512.size (k0_off5_inb c s h)) (fun _ => rfl)
  | .xr s => oM.slice (Rect.unit (s := S4096x512) (k0_off7 c (BitVec.ofNat 32 s.val)) S128x512.size (k0_off7_inb c s)) (fun _ => rfl)
  | .yr s => oM.slice (Rect.unit (s := S4096x512) (k0_off6 c (BitVec.ofNat 32 s.val)) S128x512.size (k0_off6_inb c s)) (fun _ => rfl)

/-- What a transfer of `c` writes, at its destination. -/
def dstM (k : Copy) (c : Dev nD) : Memref sig .tc .vmem S128x512 .f32 := match k with
  | .z _ h => oM.slice (Rect.unit (s := S4096x512) (k0_off1 c (hW h)) S128x512.size (k0_off1_inb c h)) (fun _ => rfl)
  | .xd s h => oM.slice (Rect.unit (s := S4096x512) (k0_off5 c (BitVec.ofNat 32 s.val) (hW h)) S128x512.size (k0_off5_inb c s h)) (fun _ => rfl)
  | .yd s h => oM.slice (Rect.unit (s := S4096x512) (k0_off5 c (BitVec.ofNat 32 s.val) (hW h)) S128x512.size (k0_off5_inb c s h)) (fun _ => rfl)
  | .xr s => oM.slice (Rect.unit (s := S4096x512) (k0_off7 c (BitVec.ofNat 32 s.val)) S128x512.size (k0_off7_inb c s)) (fun _ => rfl)
  | .yr s => oM.slice (Rect.unit (s := S4096x512) (k0_off6 c (BitVec.ofNat 32 s.val)) S128x512.size (k0_off6_inb c s)) (fun _ => rfl)

/-- The columns of `x` a device keeps. -/
abbrev keepR (c : Dev nD) : Rect S1024x2048 := Rect.unit (s := S1024x2048) (k0_off3 c) S1024x512.size (k0_off3_inb c)
/-- The rows of the result a device fills itself. -/
abbrev ownR (c : Dev nD) : Rect S4096x512 := Rect.unit (s := S4096x512) (k0_off4 c) S1024x512.size (k0_off4_inb c)

/-- A step of the kernel: the `j`-th barrier signal, the barrier wait, the start of a transfer, the local copy, the wait for
    a transfer's arrival, the wait for a transfer's departure. -/
inductive Step
  | hail (j : Fin 5)
  | bar
  | snd (k : Copy)
  | stage
  | rcv (k : Copy)
  | fin (k : Copy)
  deriving DecidableEq

/-- A step's program on device `c`. -/
def prog (c : Dev nD) : Step → Prog (TpuEff nD τ sig (Elt F) Λ₀ .tc) PUnit
  | .hail j => semSignalWord (btoW j c) barS 1#32
  | .bar => semWaitWord barS 5#32
  | .snd k => Prog.lift (.enqueueDma (srcM k c) (.remote (Dev.tc (toW k c)) (dstM k c) (.dma (sendS k))) (.dma (recvS k))
      (View.wordExact_bits rfl) (View.wordExact_bits rfl) ⟨⟨rfl, Or.inl rfl⟩, trivial⟩)
  | .stage => do
      let v ← Prog.lift (.load xM (keepR c).toLoadRect (View.loadsAt_vmem h_S1024x512))
      let _ ← Prog.lift (.load oM (ownR c).toLoadRect (View.loadsAt_vmem h_S1024x512))
      Prog.lift (.store oM (ownR c) (k0_pay1 v) Finset.univ (View.stores_vmem_bits_univ h_S1024x512 rfl) (.inl rfl))
  | .rcv k => Prog.lift (.waitDma2 (recvS k) (srcM k c) (dstM k c) (View.wordExact_bits rfl) (View.wordExact_bits rfl))
  | .fin k => Prog.lift (.waitDma2 (sendS k) (dstM k c) (srcM k c) (View.wordExact_bits rfl) (View.wordExact_bits rfl))

/-- The steps of a list one after the other. -/
def seq (c : Dev nD) : List Step → Prog (TpuEff nD τ sig (Elt F) Λ₀ .tc) PUnit
  | [] => pure ⟨⟩
  | s :: l => prog c s >>= fun _ => seq c l

/-- The kernel's steps. -/
def allSteps : List Step :=
  [.hail 0, .hail 1, .hail 2, .hail 3, .hail 4, .bar,
   .snd (.z 0 0), .snd (.z 0 1), .snd (.z 1 0), .snd (.z 1 1), .snd (.z 2 0), .snd (.z 2 1),
   .stage, .rcv (.z 2 0), .snd (.xd 0 0), .snd (.yd 0 0), .rcv (.z 2 1), .snd (.xd 0 1),
   .snd (.yd 0 1), .rcv (.z 1 0), .snd (.xd 1 0), .snd (.yd 1 0), .rcv (.z 1 1), .snd (.xd 1 1),
   .snd (.yd 1 1), .rcv (.z 0 0), .snd (.xd 2 0), .snd (.yd 2 0), .rcv (.z 0 1), .snd (.xd 2 1),
   .snd (.yd 2 1), .rcv (.xd 0 0), .snd (.yr 0), .rcv (.yd 0 1), .snd (.xr 0), .rcv (.xd 1 0),
   .snd (.yr 1), .rcv (.yd 1 1), .snd (.xr 1), .rcv (.xd 2 0), .snd (.yr 2), .rcv (.yd 2 1),
   .snd (.xr 2), .rcv (.xd 0 1), .rcv (.yd 0 0), .rcv (.xd 1 1), .rcv (.yd 1 0), .rcv (.xd 2 1),
   .rcv (.yd 2 0), .rcv (.xr 0), .rcv (.yr 0), .rcv (.xr 1), .rcv (.yr 1), .rcv (.xr 2),
   .rcv (.yr 2), .fin (.z 0 0), .fin (.z 0 1), .fin (.z 1 0), .fin (.z 1 1), .fin (.z 2 0),
   .fin (.z 2 1), .fin (.xd 0 0), .fin (.xd 0 1), .fin (.xd 1 0), .fin (.xd 1 1), .fin (.xd 2 0),
   .fin (.xd 2 1), .fin (.yd 0 0), .fin (.yd 0 1), .fin (.yd 1 0), .fin (.yd 1 1), .fin (.yd 2 0),
   .fin (.yd 2 1), .fin (.xr 0), .fin (.xr 1), .fin (.xr 2), .fin (.yr 0), .fin (.yr 1),
   .fin (.yr 2)]

set_option maxRecDepth 65536 in
/-- The printed kernel reads its device's number and runs the steps of `allSteps`. -/
theorem body_eq :
    cc0_body (F := F) xM (Memref.isWhole_whole _) oM (Memref.isWhole_whole _) cc0_scratch0 cc0_scratch1 cc0_scratch2 cc0_scratch3 cc0_scratch4
      cc0_scratch5 cc0_scratch6 cc0_scratch7 cc0_scratch8 cc0_scratch9
      = Prog.op .deviceId (fun c => seq c allSteps) := rfl

end Cert.KernelIdeal.A2A

end
-- ==== Proof.Geometry.lean ====
/-
# The mesh, the blocks and the contents

Where every transfer lands. The result of a device is 32 blocks of 128 rows: eight it fills itself and one per transfer it
receives. Everything said of a block is said once, for a symbolic transfer `k` and a symbolic device; the finite facts about
the mesh (who receives from whom, which block a transfer fills) are decided over all devices and transfers.
-/
module

public import proofs.«01_k».proof.Proof.Steps
public import Idealize.ShloMosaic.Lib.Pipeline.Value

@[expose] public section

noncomputable section

namespace Cert.KernelIdeal.A2A

open Cert.KernelIdeal Cert.KernelIdeal.Gen
open Idealize.ShloMosaic Idealize.ShloMosaic.TcCoe Idealize.SL.Sem

variable {F : FTy → Type} [FloatOps F]

/-! ## Who sends to whom -/

set_option backward.proofsInPublic true in
/-- The device a transfer `k` into `e` comes from. -/
def frm (k : Copy) (e : Dev nD) : Dev nD := match k with
  | .z d _ => ⟨4 * (e.val / 4) + (e.val % 4 + 3 - d.val) % 4, by have h : e.val < 16 := e.isLt; show _ < 16; omega⟩
  | .xd _ _ => ⟨(e.val + 8) % 16, Nat.mod_lt _ (by decide)⟩
  | .xr _ => ⟨(e.val + 8) % 16, Nat.mod_lt _ (by decide)⟩
  | .yd _ _ => ⟨8 * (e.val / 8) + (e.val % 8 + 4) % 8, by have h : e.val < 16 := e.isLt; show _ < 16; omega⟩
  | .yr _ => ⟨8 * (e.val / 8) + (e.val % 8 + 4) % 8, by have h : e.val < 16 := e.isLt; show _ < 16; omega⟩

set_option backward.proofsInPublic true in
/-- The device whose `j`-th barrier signal reaches `e`. -/
def bfrm (j : Fin 5) (e : Dev nD) : Dev nD := match j with
  | 0 => ⟨4 * (e.val / 4) + (e.val % 4 + 3) % 4, by have h : e.val < 16 := e.isLt; show _ < 16; omega⟩
  | 1 => ⟨4 * (e.val / 4) + (e.val % 4 + 2) % 4, by have h : e.val < 16 := e.isLt; show _ < 16; omega⟩
  | 2 => ⟨4 * (e.val / 4) + (e.val % 4 + 1) % 4, by have h : e.val < 16 := e.isLt; show _ < 16; omega⟩
  | 3 => ⟨(e.val + 8) % 16, Nat.mod_lt _ (by decide)⟩
  | 4 => ⟨8 * (e.val / 8) + (e.val % 8 + 4) % 8, by have h : e.val < 16 := e.isLt; show _ < 16; omega⟩

theorem toW_frm : ∀ (k : Copy) (e : Dev nD), toW k (frm k e) = e := by decide +kernel
theorem frm_toW : ∀ (k : Copy) (c : Dev nD), frm k (toW k c) = c := by decide +kernel
theorem btoW_bfrm : ∀ (j : Fin 5) (e : Dev nD), btoW j (bfrm j e) = e := by decide +kernel
theorem bfrm_btoW : ∀ (j : Fin 5) (c : Dev nD), bfrm j (btoW j c) = c := by decide +kernel

/-- A transfer, as a rearrangement of the devices. -/
def toE (k : Copy) : Dev nD ≃ Dev nD := ⟨toW k, frm k, frm_toW k, toW_frm k⟩
/-- A barrier signal, as a rearrangement of the devices. -/
def btoE (j : Fin 5) : Dev nD ≃ Dev nD := ⟨btoW j, bfrm j, bfrm_btoW j, btoW_bfrm j⟩

/-- The transfers a device may start into the one whose `j`-th signal it receives. -/
def opens : Fin 5 → List Copy
  | 0 => [.z 2 0, .z 2 1]
  | 1 => [.z 1 0, .z 1 1]
  | 2 => [.z 0 0, .z 0 1]
  | 3 => [.xd 0 0, .xd 0 1, .xd 1 0, .xd 1 1, .xd 2 0, .xd 2 1, .xr 0, .xr 1, .xr 2]
  | 4 => [.yd 0 0, .yd 0 1, .yd 1 0, .yd 1 1, .yd 2 0, .yd 2 1, .yr 0, .yr 1, .yr 2]

/-- The transfers opened by a signal go back to the signalling device. -/
theorem toW_opens : ∀ (j : Fin 5) (c : Dev nD), ∀ k ∈ opens j, toW k (btoW j c) = c := by decide +kernel

/-! ## The blocks -/

/-- The block of 128 rows of `e`'s result that transfer `k` fills. -/
def blk (k : Copy) (e : Dev nD) : Fin 32 := Fin.ofNat 32 <| match k with
  | .z d h => 8 * ((e.val % 4 + 3 - d.val) % 4) + 2 * (e.val / 4) + h.val
  | .xd s h => 8 * ((e.val % 4 + s.val + 1) % 4) + 2 * ((e.val / 4 + 2) % 4) + h.val
  | .yd s h => 8 * ((e.val % 4 + s.val + 1) % 4) + 2 * (2 * (e.val / 8) + (e.val / 4 + 1) % 2) + h.val
  | .xr s => 8 * ((e.val % 4 + s.val + 1) % 4) + 2 * (3 - e.val / 4) + 1
  | .yr s => 8 * ((e.val % 4 + s.val + 1) % 4) + 2 * (3 - e.val / 4)

theorem oInb (b : Fin 32) : ∀ a, (![128 * b.val, 0] : Fin 2 → ℕ) a + S128x512.size a ≤ S4096x512.size a := by
  revert b; decide +kernel
theorem xInb (r : Fin 8) (q : Fin 4) : ∀ a, (![128 * r.val, 512 * q.val] : Fin 2 → ℕ) a + S128x512.size a ≤ S1024x2048.size a := by
  revert r q; decide +kernel

/-- Block `b` of the result. -/
abbrev oR (b : Fin 32) : Rect S4096x512 := Rect.unit (s := S4096x512) ![128 * b.val, 0] S128x512.size (oInb b)
/-- Rows block `r`, columns block `q` of `x`. -/
abbrev xR (r : Fin 8) (q : Fin 4) : Rect S1024x2048 := Rect.unit (s := S1024x2048) ![128 * r.val, 512 * q.val] S128x512.size (xInb r q)
/-- Block `b` of the result, as a memory reference. -/
abbrev oS (b : Fin 32) : Memref sig .tc .vmem S128x512 .f32 := oM.slice (oR b) (fun _ => rfl)
/-- A block of `x`, as a memory reference. -/
abbrev xS (r : Fin 8) (q : Fin 4) : Memref sig .tc .vmem S128x512 .f32 := xM.slice (xR r q) (fun _ => rfl)

theorem oSlice_congr {o : Fin 2 → ℕ} {h} {b : Fin 32} (e : o = ![128 * b.val, 0]) :
    oM.slice (Rect.unit (s := S4096x512) o S128x512.size h) (fun _ => rfl) = oS b := by subst e; rfl
theorem xSlice_congr {o : Fin 2 → ℕ} {h} {r : Fin 8} {q : Fin 4} (e : o = ![128 * r.val, 512 * q.val]) :
    xM.slice (Rect.unit (s := S1024x2048) o S128x512.size h) (fun _ => rfl) = xS r q := by subst e; rfl

/-- The rows block a `z` transfer reads: the half of the sender's quarter. -/
def xRow (h : Fin 2) (c : Dev nD) : Fin 8 := Fin.ofNat 8 (2 * (c.val / 4) + h.val)
/-- The columns block a `z` transfer reads: the receiver's. -/
def xCol (d : Fin 3) (c : Dev nD) : Fin 4 := Fin.ofNat 4 (c.val % 4 + d.val + 1)

theorem off1_blk : ∀ (c : Dev nD) (d : Fin 3) (h : Fin 2), k0_off1 c (hW h) = ![128 * (blk (.z d h) (toW (.z d h) c)).val, 0] := by decide +kernel
theorem off2_blk : ∀ (c : Dev nD) (d : Fin 3) (h : Fin 2),
    k0_off2 c (hW h) (BitVec.ofNat 32 (1 + d.val)) = ![128 * (xRow h c).val, 512 * (xCol d c).val] := by decide +kernel
theorem off5_x : ∀ (c : Dev nD) (s : Fin 3) (h : Fin 2),
    k0_off5 c (BitVec.ofNat 32 s.val) (hW h) = ![128 * (blk (.xd s h) (toW (.xd s h) c)).val, 0] := by decide +kernel
theorem off5_y : ∀ (c : Dev nD) (s : Fin 3) (h : Fin 2),
    k0_off5 c (BitVec.ofNat 32 s.val) (hW h) = ![128 * (blk (.yd s h) (toW (.yd s h) c)).val, 0] := by decide +kernel
theorem off6_y : ∀ (c : Dev nD) (s : Fin 3), k0_off6 c (BitVec.ofNat 32 s.val) = ![128 * (blk (.yr s) (toW (.yr s) c)).val, 0] := by decide +kernel
theorem off7_x : ∀ (c : Dev nD) (s : Fin 3), k0_off7 c (BitVec.ofNat 32 s.val) = ![128 * (blk (.xr s) (toW (.xr s) c)).val, 0] := by decide +kernel

/-- A transfer writes the block of its destination that is its own. -/
theorem dstM_eq (k : Copy) (c : Dev nD) : dstM k c = oS (blk k (toW k c)) := by
  cases k with
  | z d h => exact oSlice_congr (off1_blk c d h)
  | xd s h => exact oSlice_congr (off5_x c s h)
  | yd s h => exact oSlice_congr (off5_y c s h)
  | xr s => exact oSlice_congr (off7_x c s)
  | yr s => exact oSlice_congr (off6_y c s)

/-- A `z` transfer reads a block of `x`. -/
theorem srcM_z (d : Fin 3) (h : Fin 2) (c : Dev nD) : srcM (.z d h) c = xS (xRow h c) (xCol d c) := xSlice_congr (off2_blk c d h)

/-- Whether a transfer carries a block of the sender's result on (and not one of its `x`). -/
def fwd : Copy → Bool
  | .z _ _ => false
  | _ => true

/-- A forwarded block is read where it is written. -/
theorem srcM_fwd (k : Copy) (hk : fwd k = true) (c : Dev nD) : srcM k c = oS (blk k (toW k c)) := by
  cases k with
  | z d h => cases hk
  | xd s h => exact oSlice_congr (off5_x c s h)
  | yd s h => exact oSlice_congr (off5_y c s h)
  | xr s => exact oSlice_congr (off7_x c s)
  | yr s => exact oSlice_congr (off6_y c s)

/-- The transfer whose block a forward carries on. -/
def parent : Copy → Copy
  | .z d h => .z d h
  | .xd s h => .z (flip3 s) h
  | .yd s h => .z (flip3 s) h
  | .yr s => .xd s 0
  | .xr s => .yd s 1

theorem blk_parent : ∀ (k : Copy) (c : Dev nD), fwd k = true → blk k (toW k c) = blk (parent k) c := by decide +kernel

/-- The blocks filled by transfers are not the device's own eight; -/
theorem blk_own : ∀ (k : Copy) (e : Dev nD), (blk k e).val / 8 ≠ e.val % 4 := by decide +kernel
/-- they are distinct; -/
theorem blk_inj : ∀ (e : Dev nD) (k k' : Copy), blk k e = blk k' e → k = k' := by decide +kernel
/-- and they are all the others. -/
theorem blk_cover : ∀ (e : Dev nD) (b : Fin 32), b.val / 8 = e.val % 4 ∨ ∃ k, blk k e = b := by decide +kernel

/-- A forward keeps the column of devices; -/
theorem fwd_z : ∀ (k : Copy) (c : Dev nD), fwd k = true → (toW k c).val % 4 = c.val % 4 := by decide +kernel
/-- a `z` transfer fills a block of the sender's share, of the sender's quarter, with the receiver's columns. -/
theorem z_facts : ∀ (d : Fin 3) (h : Fin 2) (c : Dev nD), (blk (.z d h) (toW (.z d h) c)).val / 8 = c.val % 4
    ∧ (blk (.z d h) (toW (.z d h) c)).val % 8 = (xRow h c).val ∧ (xRow h c).val / 2 = c.val / 4
    ∧ (xCol d c).val = (toW (.z d h) c).val % 4 := by decide +kernel
theorem z_line : ∀ (d : Fin 3) (h : Fin 2) (e : Dev nD), (xCol d e).val ≠ e.val % 4 := by decide +kernel
theorem x_inj : ∀ (e : Dev nD) (d : Fin 3) (h : Fin 2) (d' : Fin 3) (h' : Fin 2), xRow h e = xRow h' e → xCol d e = xCol d' e → d = d' ∧ h = h' := by
  decide +kernel

/-! ## The element sets -/

theorem mem_oS {b : Fin 32} {i : S4096x512.Idx} : i ∈ (oS b).view.set ↔ (i 0).val / 128 = b.val := by
  rw [show (oS b).view.set = (oR b).set from View.set_slice_whole _ _, Rect.mem_set_unit]
  have h1 : (i 1).val < 512 := (i 1).isLt
  constructor
  · intro h
    have h0 := h 0
    change 128 * b.val ≤ (i 0).val ∧ (i 0).val < 128 * b.val + 128 at h0
    omega
  · intro h a
    fin_cases a
    · change 128 * b.val ≤ (i 0).val ∧ (i 0).val < 128 * b.val + 128
      omega
    · change 0 ≤ (i 1).val ∧ (i 1).val < 0 + 512
      omega

theorem mem_xS {r : Fin 8} {q : Fin 4} {i : S1024x2048.Idx} : i ∈ (xS r q).view.set ↔ (i 0).val / 128 = r.val ∧ (i 1).val / 512 = q.val := by
  rw [show (xS r q).view.set = (xR r q).set from View.set_slice_whole _ _, Rect.mem_set_unit]
  constructor
  · intro h
    have h0 := h 0
    have h1 := h 1
    change 128 * r.val ≤ (i 0).val ∧ (i 0).val < 128 * r.val + 128 at h0
    change 512 * q.val ≤ (i 1).val ∧ (i 1).val < 512 * q.val + 512 at h1
    omega
  · intro h a
    fin_cases a
    · change 128 * r.val ≤ (i 0).val ∧ (i 0).val < 128 * r.val + 128
      omega
    · change 512 * q.val ≤ (i 1).val ∧ (i 1).val < 512 * q.val + 512
      omega

/-- The elements of the result a device fills itself. -/
def ownSet (c : Dev nD) : Finset S4096x512.Idx := (ownR c).set
theorem mem_own {c : Dev nD} {i : S4096x512.Idx} : i ∈ ownSet c ↔ (i 0).val / 1024 = c.val % 4 := by
  unfold ownSet
  rw [Rect.mem_set_unit, k0_off4_eq]
  have h1 : (i 1).val < 512 := (i 1).isLt
  constructor
  · intro h
    have h0 := h 0
    change 1024 * (c.val % 4) ≤ (i 0).val ∧ (i 0).val < 1024 * (c.val % 4) + 1024 at h0
    omega
  · intro h a
    fin_cases a
    · change 1024 * (c.val % 4) ≤ (i 0).val ∧ (i 0).val < 1024 * (c.val % 4) + 1024
      omega
    · change 0 ≤ (i 1).val ∧ (i 1).val < 0 + 512
      omega

/-- The elements of `x` a device keeps. -/
def keepSet (c : Dev nD) : Finset S1024x2048.Idx := (keepR c).set
theorem mem_keep {c : Dev nD} {i : S1024x2048.Idx} : i ∈ keepSet c ↔ (i 1).val / 512 = c.val % 4 := by
  unfold keepSet
  rw [Rect.mem_set_unit, k0_off3_eq]
  have h0 : (i 0).val < 1024 := (i 0).isLt
  constructor
  · intro h
    have h1 := h 1
    change 512 * (c.val % 4) ≤ (i 1).val ∧ (i 1).val < 512 * (c.val % 4) + 512 at h1
    omega
  · intro h a
    fin_cases a
    · change 0 ≤ (i 0).val ∧ (i 0).val < 0 + 1024
      omega
    · change 512 * (c.val % 4) ≤ (i 1).val ∧ (i 1).val < 512 * (c.val % 4) + 512
      omega

/-! ## The contents -/

set_option backward.proofsInPublic true in
/-- The device whose `x` fills row `i` of `c`'s result: `c` itself for its own share, else the device of that share's
    column whose quarter the row lies in. -/
def feeder (c : Dev nD) (i : Fin 4096) : Dev nD :=
  if i.val / 1024 = c.val % 4 then c else ⟨4 * (i.val % 1024 / 256) + i.val / 1024, by have h := i.isLt; show _ < 16; omega⟩

set_option backward.proofsInPublic true in
/-- The element of the feeder's `x` that ends at `(i, j)` of `c`'s result. -/
def place (c : Dev nD) (i : S4096x512.Idx) : S1024x2048.Idx :=
  fun a => match a with
    | ⟨0, _⟩ => (⟨(i 0).val % 1024, Nat.mod_lt _ (by decide)⟩ : Fin 1024)
    | ⟨1, _⟩ => (⟨512 * (c.val % 4) + (i 1).val, by have h : (i 1).val < 512 := (i 1).isLt; omega⟩ : Fin 2048)

variable (X : Dev nD → (cc0_stg0_0 : Ref sig .tc).ty.Contents (Elt F))

/-- The result of device `c`, from every device's `x`. -/
def gather (c : Dev nD) : (cc0_stg1_0 : Ref sig .tc).ty.Contents (Elt F) := fun i => X (feeder c (i 0)) (place c i)

omit [FloatOps F] in
theorem idx_ext {i j : S1024x2048.Idx} (h0 : (i 0).val = (j 0).val) (h1 : (i 1).val = (j 1).val) : i = j :=
  funext fun a => by fin_cases a <;> exact Fin.ext (by assumption)

omit [FloatOps F] in
/-- A forwarded block holds the same at the sender and at the receiver. -/
theorem gather_fwd (k : Copy) (hk : fwd k = true) (c : Dev nD) (i : S4096x512.Idx) (hi : i ∈ (oS (blk k (toW k c))).view.set) :
    gather X c i = gather X (toW k c) i := by
  rw [mem_oS] at hi
  have hz := fwd_z k c hk
  have ho := blk_own k (toW k c)
  unfold gather feeder
  rw [if_neg (by omega), if_neg (by omega)]
  congr 1
  exact idx_ext rfl (by show 512 * (c.val % 4) + _ = 512 * ((toW k c).val % 4) + _; rw [hz])

omit [FloatOps F] in
/-- A block written from what a transfer reads holds the receiver's result. -/
theorem landed_z (d : Fin 3) (h : Fin 2) (c : Dev nD) (f : (cc0_stg1_0 : Ref sig .tc).ty.Contents (Elt F)) (i : S4096x512.Idx)
    (hi : i ∈ (oS (blk (.z d h) (toW (.z d h) c))).view.set) :
    (oS (blk (.z d h) (toW (.z d h) c))).view.write (Elt F) f ((xS (xRow h c) (xCol d c)).view.read (Elt F) (X c)) Finset.univ i
      = gather X (toW (.z d h) c) i := by
  obtain ⟨h1, h2, h3, h4⟩ := z_facts d h c
  have hne := z_line d h c
  obtain ⟨y, -, rfl⟩ := Finset.mem_map.mp hi
  rw [mem_oS] at hi
  rw [View.write_emb_of_mem _ _ (Finset.mem_univ y), View.read_apply]
  set e := toW (.z d h) c
  set b := blk (.z d h) e
  have hy0 : (y 0).val < 128 := (y 0).isLt
  have hr : ((oS b).view.emb y 0).val = 128 * b.val + 1 * (y 0).val := rfl
  have hc : ((oS b).view.emb y 1).val = 0 + 1 * (y 1).val := rfl
  have hr' : ((xS (xRow h c) (xCol d c)).view.emb y 0).val = 128 * (xRow h c).val + 1 * (y 0).val := rfl
  have hc' : ((xS (xRow h c) (xCol d c)).view.emb y 1).val = 512 * (xCol d c).val + 1 * (y 1).val := rfl
  have hb : b.val < 32 := b.isLt
  show X c ((xS (xRow h c) (xCol d c)).view.emb y) = X (feeder e ((oS b).view.emb y 0)) (place e ((oS b).view.emb y))
  have hf : feeder e ((oS b).view.emb y 0) = c := by
    unfold feeder
    rw [if_neg (by omega)]
    exact Fin.ext (by show 4 * (_ % 1024 / 256) + _ / 1024 = c.val; omega)
  rw [hf]
  congr 1
  refine idx_ext ?_ ?_
  · rw [hr']; show _ = ((oS b).view.emb y 0).val % 1024; omega
  · rw [hc']; show _ = 512 * (e.val % 4) + ((oS b).view.emb y 1).val; omega

omit [FloatOps F] in
/-- A forwarded block, written from itself, holds the receiver's result. -/
theorem landed_fwd (k : Copy) (hk : fwd k = true) (c : Dev nD) (f : (cc0_stg1_0 : Ref sig .tc).ty.Contents (Elt F)) (i : S4096x512.Idx)
    (hi : i ∈ (oS (blk k (toW k c))).view.set) :
    (oS (blk k (toW k c))).view.write (Elt F) f ((oS (blk k (toW k c))).view.read (Elt F) (gather X c)) Finset.univ i
      = gather X (toW k c) i := by
  rw [← gather_fwd X k hk c i hi, View.write_read_eq_piecewise]
  exact Finset.piecewise_eq_of_mem _ _ _ hi

omit [FloatOps F] in
/-- The local copy leaves the device's own rows holding its result. -/
theorem landed_own (c : Dev nD) (f : (cc0_stg1_0 : Ref sig .tc).ty.Contents (Elt F)) (i : S4096x512.Idx) (hi : i ∈ ownSet c) :
    (oM.access (ownR c) : View sig .tc _ _ _).write (Elt F) f (k0_pay1 (xM.view.readAt (Elt F) (keepR c).toLoadRect (X c))) Finset.univ i
      = gather X c i := by
  have hi' := mem_own.mp hi
  have hset : ((oM.access (ownR c) : View sig .tc _ _ _)).set = ownSet c := View.set_slice_whole _ _
  rw [← hset] at hi
  obtain ⟨y, -, rfl⟩ := Finset.mem_map.mp hi
  rw [View.write_emb_of_mem _ _ (Finset.mem_univ y)]
  set v := (oM.access (ownR c) : View sig .tc _ _ _)
  have h4 := k0_off4_eq c
  have h3 := k0_off3_eq c
  have hr : (v.emb y 0).val = k0_off4 c 0 + 1 * (y 0).val := rfl
  have hc : (v.emb y 1).val = k0_off4 c 1 + 1 * (y 1).val := rfl
  have hr' : ((xM.view.slice (keepR c)).emb y 0).val = k0_off3 c 0 + 1 * (y 0).val := rfl
  have hc' : ((xM.view.slice (keepR c)).emb y 1).val = k0_off3 c 1 + 1 * (y 1).val := rfl
  have hy0 : (y 0).val < 1024 := (y 0).isLt
  rw [h4] at hr hc
  rw [h3] at hr' hc'
  replace hr : (v.emb y 0).val = 1024 * (c.val % 4) + 1 * (y 0).val := hr
  replace hc : (v.emb y 1).val = 0 + 1 * (y 1).val := hc
  replace hr' : ((xM.view.slice (keepR c)).emb y 0).val = 0 + 1 * (y 0).val := hr'
  replace hc' : ((xM.view.slice (keepR c)).emb y 1).val = 512 * (c.val % 4) + 1 * (y 1).val := hc'
  have hp : k0_pay1 (xM.view.readAt (Elt F) (keepR c).toLoadRect (X c)) y = X c ((xM.view.slice (keepR c)).emb y) := by
    unfold k0_pay1
    rw [shapeCast_self]
    rfl
  show k0_pay1 (xM.view.readAt (Elt F) (keepR c).toLoadRect (X c)) y = X (feeder c (v.emb y 0)) (place c (v.emb y))
  rw [hp]
  have hf : feeder c (v.emb y 0) = c := by
    unfold feeder
    rw [if_pos (by omega)]
  rw [hf]
  congr 1
  refine idx_ext ?_ ?_
  · rw [hr']; show _ = (v.emb y 0).val % 1024; omega
  · rw [hc']; show _ = 512 * (c.val % 4) + (v.emb y 1).val; omega

end Cert.KernelIdeal.A2A

end
-- ==== Proof.Sched.lean ====
/-
# The protocol: cells, payloads, levels and tokens

Every device has 49 counted cells: the barrier cell, and a departure and an arrival cell for each of its 24 transfers.

* The `j`-th signal into a device's barrier cell hands it the blocks, on the signalling device, that it may write
  (the transfers in `opens j`).
* A transfer's arrival cell hands the receiver its block, holding the receiver's result; its departure cell hands the sender
  back what it read from.
* Levels: departures 0, the barrier 1, arrivals of `z` transfers 2, of direct forwards 3, of relays 4. A device waits on a cell
  only while all it still owes lies on a higher level.
-/
module

public import proofs.«01_k».proof.Proof.Geometry

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Separating conjunctions along a list -/

section Lists
variable {M : Type} [URA M] {I J : Type}

theorem sep_nil (Φ : I → sProp M) : bigSepM (([] : List I) : Multiset I) Φ = iprop(emp) := bigSepM_zero

theorem sep_cons (i : I) (l : List I) (Φ : I → sProp M) :
    bigSepM ((i :: l : List I) : Multiset I) Φ = iprop(Φ i ∗ bigSepM (l : Multiset I) Φ) := bigSepM_cons i (l : Multiset I) Φ

theorem sep_append (l l' : List I) (Φ : I → sProp M) :
    bigSepM ((l ++ l' : List I) : Multiset I) Φ = iprop(bigSepM (l : Multiset I) Φ ∗ bigSepM (l' : Multiset I) Φ) := by
  rw [← Multiset.coe_add]; exact bigSepM_add _ _ _

theorem sep_flatMap (f : J → List I) (l : List J) (Φ : I → sProp M) :
    bigSepM ((l.flatMap f : List I) : Multiset I) Φ = bigSepM (l : Multiset J) fun j => bigSepM (f j : Multiset I) Φ := by
  induction l with
  | nil => exact (sep_nil _).trans (sep_nil _).symm
  | cons j l ih => rw [List.flatMap_cons, sep_append, ih, sep_cons]

/-- Over a whole finite type, by a list of its elements. -/
theorem sep_univ [Fintype I] {l : List I} (h : l.Nodup) (hl : ∀ i, i ∈ l) (Φ : I → sProp M) :
    bigSepM (l : Multiset I) Φ = bigSep Finset.univ Φ := by
  have e : (⟨(l : Multiset I), Multiset.coe_nodup.mpr h⟩ : Finset I) = Finset.univ :=
    Finset.eq_univ_iff_forall.mpr fun i => hl i
  rw [← e]; rfl

end Lists

/-! ## The resource algebra -/

/-- The names of a round's duties: the five barrier signals; a transfer's cell uses `0` only. -/
abbrev D : Type := Fin 5
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A transfer's two semaphores: departure (`false`), arrival (`true`). -/
abbrev Leg : Type := Bool × Copy
/-- A device's cells: the barrier (`none`) and the transfers' legs. -/
abbrev Cid : Type := Option Leg

/-- A transfer's semaphores. -/
abbrev osem : Leg → SemLoc sig
  | (false, k) => .dma (sendS k)
  | (true, k) => .dma (recvS k)

/-- A cell's semaphore. -/
abbrev csem : Cid → SemLoc sig
  | none => .reg barS
  | some l => osem l

/-- Cell `i` of device `c`. -/
abbrev cell (c : Dev nD) (i : Cid) : GSem nD τ sig := ((c : Thread nD τ), csem i)
abbrev barCell (c : Dev nD) : GSem nD τ sig := cell c none
abbrev sendCell (k : Copy) (c : Dev nD) : GSem nD τ sig := cell c (some (false, k))
abbrev recvCell (k : Copy) (c : Dev nD) : GSem nD τ sig := cell c (some (true, k))

/-- All cells, in a list. -/
def cids : List Cid := none :: (copies.map fun k => some (false, k)) ++ (copies.map fun k => some (true, k))

/-- Which cell a semaphore is, if any. -/
def cidOf (s : SemLoc sig) : Option Cid := cids.find? fun i => decide (csem i = s)

theorem cidOf_csem : ∀ i : Cid, cidOf (csem i) = some i := by decide +kernel

theorem csem_inj {i j : Cid} (h : csem i = csem j) : i = j := Option.some.inj (by rw [← cidOf_csem i, h, cidOf_csem])

theorem cell_inj {c c' : Dev nD} {i i' : Cid} (h : cell c i = cell c' i') : c = c' ∧ i = i' :=
  ⟨congrArg (fun g : GSem nD τ sig => g.1.1) h, csem_inj (congrArg Prod.snd h)⟩

/-- The units a transfer of one block counts. -/
abbrev N : ℕ := (oS 0).view.dmaCredit
theorem N_pos : 0 < N := View.dmaCredit_pos _ (by decide)

theorem credit_dst (k : Copy) (c : Dev nD) : (dstM k c).view.dmaCredit = N := by rw [dstM_eq]
theorem credit_src (k : Copy) (c : Dev nD) : (srcM k c).view.dmaCredit = N := by
  cases k with
  | z d h => rw [srcM_z]
  | xd s h => rw [srcM_fwd _ rfl]
  | yd s h => rw [srcM_fwd _ rfl]
  | xr s => rw [srcM_fwd _ rfl]
  | yr s => rw [srcM_fwd _ rfl]

/-! ## What a device holds, piece by piece -/

variable (X : Dev nD → (cc0_stg0_0 : Ref sig .tc).ty.Contents (Elt F))

/-- Block `b` of device `c`'s result at share `q`, holding `f`. -/
def oPts (c : Dev nD) (b : Fin 32) (q : PosShare TreeShare) (f : Buf (Elt F) ((oS b).view.loc (c : Thread nD τ))) : sProp 𝕄 :=
  (oS b).view.loc (c : Thread nD τ) ↦[(oS b).view.set]{q} f

/-- The piece of device `c`'s `x` a `z` transfer reads. -/
def xPts (c : Dev nD) (r : Fin 8) (q : Fin 4) : sProp 𝕄 :=
  (xS r q).view.loc (c : Thread nD τ) ↦[(xS r q).view.set]{fullShare} X c

/-- The elements of `x` no `z` transfer reads. -/
def xRest (c : Dev nD) : Finset S1024x2048.Idx :=
  Finset.univ \ Finset.univ.biUnion fun dh : Fin 3 × Fin 2 => (xS (xRow dh.2 c) (xCol dh.1 c)).view.set

/-- A share: the whole, or one of its halves. -/
def shareOf : Option Bool → PosShare TreeShare
  | none => fullShare
  | some false => (fullShare : PosShare TreeShare).left
  | some true => (fullShare : PosShare TreeShare).right

/-- The pieces a device may hold: the source of a `z` transfer; a received block at a share; the block a transfer will write,
    at its destination; its own block before it is handed over; the credit of a transfer on its way; its own rows before and after the
    local copy; the rest of `x`; a cell closed at zero. -/
inductive Tok
  | xsrc (d : Fin 3) (h : Fin 2)
  | part (k : Copy) (o : Option Bool)
  | hole (k : Copy)
  | mine (k : Copy)
  | inflight (k : Copy)
  | own
  | ownDone
  | xrest
  | zero (i : Cid)
  deriving DecidableEq

/-- A piece, as a resource of device `c`. -/
def tok (c : Dev nD) : Tok → sProp 𝕄
  | .xsrc d h => xPts X c (xRow h c) (xCol d c)
  | .part k o => oPts c (blk k c) (shareOf o) (gather X c)
  | .hole k => iprop(∃ f, oPts (toW k c) (blk k (toW k c)) fullShare f)
  | .mine k => iprop(∃ f, oPts c (blk k c) fullShare f)
  | .inflight k => cred (tallyAt (sendCell k c) () N)
  | .own => iprop(∃ f : Buf (Elt F) ((c : Thread nD τ).loc cc0_stg1_0), ((c : Thread nD τ).loc cc0_stg1_0) ↦[ownSet c]{fullShare} f)
  | .ownDone => ((c : Thread nD τ).loc cc0_stg1_0) ↦[ownSet c]{fullShare} gather X c
  | .xrest => ((c : Thread nD τ).loc cc0_stg0_0) ↦[xRest c]{fullShare} X c
  | .zero i => semVal (cell c i) 0

/-- The piece a transfer reads. -/
def srcTok : Copy → Tok
  | .z d h => .xsrc d h
  | .xd s h => .part (.z (flip3 s) h) (some false)
  | .yd s h => .part (.z (flip3 s) h) (some true)
  | .yr s => .part (.xd s 0) none
  | .xr s => .part (.yd s 1) none

omit [FloatOps F] in
instance oPts_storable (c : Dev nD) (b : Fin 32) (q) (f) : BI.Storable (upEmb : UEmb _ 𝕄) (oPts (F := F) c b q f) := by unfold oPts; infer_instance
omit [FloatOps F] in
instance xPts_storable (c : Dev nD) (r : Fin 8) (q : Fin 4) : BI.Storable (upEmb : UEmb _ 𝕄) (xPts (F := F) X c r q) := by
  unfold xPts; infer_instance

/-! ## The schedule -/

/-- What the `j`-th signal into `c`'s barrier cell hands over: the blocks `c` may write because of it. -/
def barPay (c : Dev nD) (j : D) : sProp 𝕄 :=
  bigSepM (opens j : Multiset Copy) fun k => iprop(∃ f, oPts (toW k c) (blk k (toW k c)) fullShare f)
/-- What a transfer's arrival hands the receiver: its block, holding the result. -/
def recvPay (c : Dev nD) (k : Copy) : sProp 𝕄 := oPts c (blk k c) fullShare (gather X c)
/-- What a transfer's departure hands the sender: what it was read from. -/
def sendPay (c : Dev nD) (k : Copy) : sProp 𝕄 := tok X c (srcTok k)

instance bigSepM_storable {I : Type} (l : List I) (Φ : I → sProp 𝕄) [∀ i, BI.Storable (upEmb : UEmb _ 𝕄) (Φ i)] :
    BI.Storable (upEmb : UEmb _ 𝕄) (bigSepM (l : Multiset I) Φ) := by
  induction l with
  | nil => rw [sep_nil]; infer_instance
  | cons i l ih => rw [sep_cons]; infer_instance

omit [FloatOps F] in
instance barPay_storable (c : Dev nD) (j : D) : BI.Storable (upEmb : UEmb _ 𝕄) (barPay (F := F) c j) := by unfold barPay; infer_instance
omit [FloatOps F] in
instance recvPay_storable (c : Dev nD) (k : Copy) : BI.Storable (upEmb : UEmb _ 𝕄) (recvPay (F := F) X c k) := by unfold recvPay; infer_instance
omit [FloatOps F] in
instance sendPay_storable (c : Dev nD) (k : Copy) : BI.Storable (upEmb : UEmb _ 𝕄) (sendPay (F := F) X c k) := by
  unfold sendPay; cases k <;> (unfold srcTok tok; infer_instance)

/-- The payload of duty `d` of cell `i` of device `c`. -/
def payOf (c : Dev nD) (d : D) : Option Cid → sProp 𝕄
  | none => iprop(emp)
  | some none => barPay c d
  | some (some (false, k)) => sendPay X c k
  | some (some (true, k)) => recvPay X c k

/-- The duties of a cell in its only round. -/
def dutiesOf : Option Cid → Finset D
  | none => ∅
  | some none => Finset.univ
  | some (some _) => {0}

/-- One round: the barrier cell has five duties of one unit, every other cell one duty of a block's units. -/
def sched : Rounds.Schedule (GSem nD τ sig) D 𝕄 where
  duties g r := if r = 0 ∧ g.1.2 = .tc then dutiesOf (cidOf g.2) else ∅
  unitless _ := False
  amount g _ _ := if cidOf g.2 = some none then 1 else N
  payload g _ d := payOf X g.1.1 d (cidOf g.2)
  amount_pos g _ _ _ := by
    by_cases h : cidOf g.2 = some none
    · rw [if_pos h]; exact Nat.one_pos
    · rw [if_neg h]; exact N_pos

instance sched_payload_storable (g : GSem nD τ sig) (r : ℕ) (d : D) : BI.Storable (upEmb : UEmb _ 𝕄) ((sched (F := F) X).payload g r d) := by
  show BI.Storable upEmb (payOf X g.1.1 d (cidOf g.2))
  rcases cidOf g.2 with _ | _ | ⟨_ | _, k⟩ <;> (unfold payOf; infer_instance)

section Facts
variable (c : Dev nD)

omit [FloatOps F] in
theorem duties_cell (i : Cid) : (sched (F := F) X).duties (cell c i) 0 = dutiesOf (some i) := by
  dsimp only [sched]; rw [if_pos ⟨rfl, rfl⟩, cidOf_csem]
omit [FloatOps F] in
theorem mem_bar (d : D) : d ∈ (sched (F := F) X).duties (barCell c) 0 := by rw [duties_cell]; exact Finset.mem_univ d
omit [FloatOps F] in
theorem mem_leg (l : Leg) : (0 : D) ∈ (sched (F := F) X).duties (cell c (some l)) 0 := by rw [duties_cell]; exact Finset.mem_singleton_self _
omit [FloatOps F] in
theorem duties_later (g : GSem nD τ sig) : ∀ r, 1 ≤ r → (sched (F := F) X).duties g r = ∅ :=
  fun r hr => by dsimp only [sched]; rw [if_neg fun h => by omega]
omit [FloatOps F] in
theorem amount_bar (d : D) : (sched (F := F) X).amount (barCell c) 0 d = 1 := by dsimp only [sched]; rw [cidOf_csem, if_pos rfl]
omit [FloatOps F] in
theorem amount_leg (l : Leg) (d : D) : (sched (F := F) X).amount (cell c (some l)) 0 d = N := by
  dsimp only [sched]; rw [cidOf_csem, if_neg (by simp)]
omit [FloatOps F] in
theorem payload_cell (i : Cid) (d : D) : (sched (F := F) X).payload (cell c i) 0 d = payOf X c d (some i) := by
  dsimp only [sched]; rw [cidOf_csem]
omit [FloatOps F] in
theorem expect_bar : (sched (F := F) X).expect (barCell c) 0 = 5 := by
  unfold Schedule.expect Schedule.amountOf
  rw [duties_cell, Finset.sum_congr rfl fun d _ => amount_bar X c d]; rfl
omit [FloatOps F] in
theorem expect_leg (l : Leg) : (sched (F := F) X).expect (cell c (some l)) 0 = N := by
  unfold Schedule.expect Schedule.amountOf
  rw [duties_cell]; exact (Finset.sum_singleton _ _).trans (amount_leg X c l 0)

omit [FloatOps F] in
/-- All that a transfer's cell hands over. -/
theorem rest_leg (l : Leg) :
    bigSep ((sched (F := F) X).duties (cell c (some l)) 0 \ ∅) (fun d => (sched (F := F) X).payload (cell c (some l)) 0 d) = payOf X c 0 (some (some l)) := by
  rw [Finset.sdiff_empty, duties_cell]
  exact bigSep_singleton.trans (payload_cell X c _ 0)

omit [FloatOps F] in
/-- All that the barrier cell hands over: every block the device may write. -/
theorem rest_bar :
    bigSep ((sched (F := F) X).duties (barCell c) 0 \ ∅) (fun d => (sched (F := F) X).payload (barCell c) 0 d)
      = bigSepM ((([0, 1, 2, 3, 4] : List D).flatMap opens : List Copy) : Multiset Copy) fun k => iprop(∃ f, oPts (toW k c) (blk k (toW k c)) fullShare f) := by
  rw [Finset.sdiff_empty, duties_cell, bigSep_congr fun d _ => payload_cell X c none d, sep_flatMap, sep_univ (by decide) (by decide)]
  rfl

end Facts

/-! ## What is owed, and the levels -/

/-- A transfer's level. -/
def copyLev : Copy → ℕ
  | .z _ _ => 2
  | .xd _ _ => 3
  | .yd _ _ => 3
  | .xr _ => 4
  | .yr _ => 4

/-- A cell's level. -/
def cidLev : Cid → ℕ
  | none => 1
  | some (false, _) => 0
  | some (true, k) => copyLev k

def L (g : GSem nD τ sig) : Finset Unit := if g.1.2 = .tc then {()} else ∅
def lv (g : GSem nD τ sig) (_ : Unit) : ℕ := match cidOf g.2 with
  | some i => cidLev i
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Cid) (u : Unit) : lv (cell c i) u = cidLev i := by unfold lv; rw [cidOf_csem]

/-- The cell a step of `c` adds to, if any. -/
def pays (c : Dev nD) : Step → Option (Dev nD × Cid)
  | .hail j => some (btoW j c, none)
  | .snd k => some (toW k c, some (true, k))
  | _ => none

/-- What a step owes: its units, at the cell it adds to. -/
def stepOwe (c : Dev nD) : Step → CellTallies nD τ sig Unit
  | .hail j => tallyAt (barCell (btoW j c)) () 1
  | .snd k => tallyAt (recvCell k (toW k c)) () N
  | _ => 0

/-- What a device owes before a list of steps. -/
def oweL (c : Dev nD) : List Step → CellTallies nD τ sig Unit
  | [] => 0
  | s :: l => oweL c l + stepOwe c s

/-- The level of what a step owes. -/
def oweLev : Step → Option ℕ
  | .hail _ => some 1
  | .snd k => some (copyLev k)
  | _ => none

/-- All that remains to be paid after a wait on level `n` lies above. -/
def Above (n : ℕ) (l : List Step) : Prop := ∀ s ∈ l, ∀ v ∈ oweLev s, n < v

instance (n : ℕ) (l : List Step) : Decidable (Above n l) := by unfold Above; infer_instance

theorem stepOwe_pos {c : Dev nD} {s : Step} {g : GSem nD τ sig} {u : Unit} (h : 0 < stepOwe c s g u) :
    g.1.2 = .tc ∧ ∃ v, oweLev s = some v ∧ lv g u = v := by
  cases s with
  | hail j =>
    rw [stepOwe, tallyAt_apply] at h
    by_cases hg : g = barCell (btoW j c) ∧ u = ()
    · rw [hg.1]; exact ⟨rfl, 1, rfl, lv_cell _ _ _⟩
    · rw [if_neg hg] at h; exact absurd h (Nat.lt_irrefl 0)
  | snd k =>
    rw [stepOwe, tallyAt_apply] at h
    by_cases hg : g = recvCell k (toW k c) ∧ u = ()
    · rw [hg.1]; exact ⟨rfl, copyLev k, rfl, lv_cell _ _ _⟩
    · rw [if_neg hg] at h; exact absurd h (Nat.lt_irrefl 0)
  | bar => exact absurd h (Nat.lt_irrefl 0)
  | stage => exact absurd h (Nat.lt_irrefl 0)
  | rcv k => exact absurd h (Nat.lt_irrefl 0)
  | fin k => exact absurd h (Nat.lt_irrefl 0)

theorem oweL_pos {c : Dev nD} {l : List Step} {g : GSem nD τ sig} {u : Unit} (h : 0 < oweL c l g u) :
    g.1.2 = .tc ∧ ∃ s ∈ l, ∃ v, oweLev s = some v ∧ lv g u = v := by
  induction l with
  | nil => exact absurd h (Nat.lt_irrefl 0)
  | cons s l ih =>
    rw [oweL, Pi.add_apply, Finsupp.add_apply] at h
    by_cases h' : 0 < oweL c l g u
    · obtain ⟨h1, s', hs', h2⟩ := ih h'
      exact ⟨h1, s', List.mem_cons_of_mem _ hs', h2⟩
    · obtain ⟨h1, h2⟩ := stepOwe_pos (c := c) (s := s) (g := g) (u := u) (by omega)
      exact ⟨h1, s, List.mem_cons_self, h2⟩

omit [FloatOps F] in
/-- A device may wait at a semaphore whose level is below all it still owes. -/
theorem mayWait (c : Dev nD) (sm : SemLoc sig) (l : List Step) (n : ℕ) (hn : lv ((c : Thread nD τ), sm) () = n) (h : Above n l) :
    (levAts L lv : sProp 𝕄) ⊢ MayWait (c : Thread nD τ) sm () (oweL c l) :=
  MayOwe.of_cut (L := L) (lev := lv) n (fun p hp => by rw [Finset.mem_singleton.mp hp, L_tc]; exact Finset.mem_singleton_self _)
    (fun g u hg => by unfold L; rw [if_pos (oweL_pos hg).1]; exact Finset.mem_singleton_self _)
    (fun p hp => by rw [Finset.mem_singleton.mp hp]; exact hn.le)
    (fun g u hg => by
      obtain ⟨-, s, hs, v, hv, hl⟩ := oweL_pos hg
      rw [hl]; exact h s hs v hv)

end Cert.KernelIdeal.A2A

end
-- ==== Proof.Rules.lean ====
/-
# Running a list of steps

Each step takes some pieces from its device and gives some back (`ins`, `outs`). One rule per kind of step, at a symbolic device
and a symbolic transfer; `run_steps` puts them together for any list of steps whose pieces add up (`tally`), which for the kernel's
own list is decided by evaluation.
-/
module

public import proofs.«01_k».proof.Proof.Sched

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## What a step takes and gives -/

/-- What an arrived transfer leaves: the block; a block to be forwarded twice comes in its two halves. -/
def land : Copy → List Tok
  | .z d h => [.part (.z d h) (some false), .part (.z d h) (some true)]
  | k => [.part k none]

/-- All the blocks a device is handed through its barrier cell. -/
def opened : List Copy := ([0, 1, 2, 3, 4] : List D).flatMap opens

def ins : Step → List Tok
  | .hail j => (opens j).map .mine
  | .bar => []
  | .snd k => [srcTok k, .hole k]
  | .stage => [.own, .xrest]
  | .rcv _ => []
  | .fin k => [.inflight k]

def outs : Step → List Tok
  | .hail _ => []
  | .bar => .zero none :: opened.map .hole
  | .snd k => [.inflight k]
  | .stage => [.ownDone, .xrest]
  | .rcv k => .zero (some (true, k)) :: land k
  | .fin k => [.zero (some (false, k)), srcTok k]

/-- The level a step waits on. -/
def waitLev : Step → Option ℕ
  | .bar => some 1
  | .rcv k => some (copyLev k)
  | .fin _ => some 0
  | _ => none

/-- Every wait of a step is below all that remains to be paid. -/
def Fits (s : Step) (l : List Step) : Prop := ∀ n ∈ waitLev s, Above n l
instance (s : Step) (l : List Step) : Decidable (Fits s l) := by unfold Fits; infer_instance

/-- `T` without the pieces of `I`, if it has them. -/
def takeAll : List Tok → List Tok → Option (List Tok)
  | [], T => some T
  | t :: I, T => if t ∈ T then takeAll I (T.erase t) else none

theorem takeAll_spec {I T R : List Tok} (h : takeAll I T = some R) : (T : Multiset Tok) = ((I ++ R : List Tok) : Multiset Tok) := by
  induction I generalizing T with
  | nil => cases h; rfl
  | cons t I ih =>
    unfold takeAll at h
    split at h
    · next ht =>
      rw [List.cons_append, ← Multiset.cons_coe, ← ih h, Multiset.cons_coe]
      exact Multiset.coe_eq_coe.mpr (List.perm_cons_erase ht)
    · cases h

/-- The pieces left after a list of steps, if every step finds its pieces and every wait fits. -/
def tally : List Tok → List Step → Option (List Tok)
  | T, [] => some T
  | T, s :: l => if Fits s l then (takeAll (ins s) T).bind fun R => tally (outs s ++ R) l else none

/-! ## What a step is run from -/

variable (X : Dev nD → (cc0_stg0_0 : Ref sig .tc).ty.Contents (Elt F))

/-- What all steps share: the cells' invariants, that every cell is at its round, and the levels. -/
def ctx (K : Dev nD × Cid → ℕ) : sProp 𝕄 :=
  iprop((bigSep Finset.univ fun ci : Dev nD × Cid => cellInv ER (sched X) (K ci) (cell ci.1 ci.2))
    ∗ (bigSep Finset.univ fun ci : Dev nD × Cid => reached ER (cell ci.1 ci.2) 0) ∗ levAts L lv)

instance ctx_persistent (K : Dev nD × Cid → ℕ) : BI.Persistent (ctx (F := F) X K) := by unfold ctx; infer_instance

/-- What a step uses up: the tokens of the duties it pays, its cell's position, the credit it waits with. -/
def kit (c : Dev nD) : Step → sProp 𝕄
  | .hail j => dutyTok ER (barCell (btoW j c)) 0 j
  | .bar => iprop(atPos ER (barCell c) 0 ∅ 0 ∗ cred (tallyAt (barCell c) () 5))
  | .snd k => iprop(dutyTok ER (sendCell k c) 0 0 ∗ dutyTok ER (recvCell k (toW k c)) 0 0)
  | .stage => iprop(emp)
  | .rcv k => iprop(atPos ER (recvCell k c) 0 ∅ 0 ∗ cred (tallyAt (recvCell k c) () N))
  | .fin k => atPos ER (sendCell k c) 0 ∅ 0

/-- Pieces of a device, together. -/
abbrev toks (c : Dev nD) (T : List Tok) : sProp 𝕄 := bigSepM (T : Multiset Tok) (tok X c)

variable (K : Dev nD × Cid → ℕ) (c : Dev nD)

omit [FloatOps F] in
theorem inv_at (i : Cid) : ctx (F := F) X K ⊢ cellInv ER (sched X) (K (c, i)) (cell c i) := by
  have h : (bigSep Finset.univ fun ci : Dev nD × Cid => (cellInv ER (sched X) (K ci) (cell ci.1 ci.2) : sProp 𝕄)) ⊢ cellInv ER (sched X) (K (c, i)) (cell c i) :=
    bigSep_elim (Finset.mem_univ (c, i))
  unfold ctx; iintro ⟨#HI, -⟩
  iapply h; iexact HI
omit [FloatOps F] in
theorem reached_at (i : Cid) : ctx (F := F) X K ⊢ reached ER (cell c i) 0 := by
  have h : (bigSep Finset.univ fun ci : Dev nD × Cid => (reached ER (cell ci.1 ci.2) 0 : sProp 𝕄)) ⊢ reached ER (cell c i) 0 :=
    bigSep_elim (Finset.mem_univ (c, i))
  unfold ctx; iintro ⟨-, #HR, -⟩
  iapply h; iexact HR
omit [FloatOps F] in
theorem fits_wait (i : Cid) (l : List Step) (h : Above (cidLev i) l) : ctx (F := F) X K ⊢ MayWait (c : Thread nD τ) (csem i) () (oweL c l) := by
  have h' := mayWait (F := F) c (csem i) l (cidLev i) (lv_cell c i ()) h
  unfold ctx; iintro ⟨-, -, #HL⟩
  iapply h'; iexact HL

abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp 𝕄} {kk : PUnit → Prog (TpuEff nD τ sig (Elt F) Λ₀ .tc) α}

omit [FloatOps F] in
theorem owe_cons (s : Step) (l : List Step) : oweL c (s :: l) = oweL c l + stepOwe c s := rfl

/-- A step's rule: from the shared facts, the step's kit, what is owed and the pieces it takes, to what is still owed and the pieces
    it gives. -/
def StepRule (s : Step) (l : List Step) : Prop :=
  ∀ (α : Type) (Q : α → sProp 𝕄) (kk : PUnit → Prog (TpuEff nD τ sig (Elt F) Λ₀ .tc) α) (W : Waits sig Unit),
    iprop(ctx X K ∗ kit c s ∗ owes (c : Thread nD τ) (oweL c (s :: l)) W ∗ toks X c (ins s))
      ⊢ iprop(((∃ W' : Waits sig Unit, owes (c : Thread nD τ) (oweL c l) W' ∗ toks X c (outs s)) -∗ WP c (kk ⟨⟩) Q)
          -∗ WP c (prog c s >>= kk) Q)

theorem rule_hail (j : Fin 5) (l : List Step) : StepRule X K c (.hail j) l := by
  intro α Q kk W
  have hpay : toks X c (ins (.hail j)) = (sched X).payload (barCell (btoW j c)) 0 j := by
    rw [payload_cell]
    show bigSepM (((opens j).map Tok.mine : List Tok) : Multiset Tok) (tok X c) = barPay (btoW j c) j
    unfold barPay
    rw [← Multiset.map_coe]
    unfold bigSepM
    rw [Multiset.map_map]
    congr 1
    refine Multiset.map_congr rfl fun k hk => ?_
    rw [toW_opens j c k (Multiset.mem_coe.mp hk)]
    rfl
  rw [hpay, owe_cons]
  simp only [kit, stepOwe, prog, semSignalWord, Prog.lift, Prog.bind_op, Prog.bind_ret, Prog.pure_eq_ret]
  iintro ⟨#HC, Ht, HO, Hp⟩ Hk
  iapply (Rounds.wp_signal 𝒱₀ ER (sched X) (c : Thread nD τ) none (dst := (btoW j c : Thread nD τ)) (κ := K (btoW j c, none))
      (d := j) (mem_bar X (btoW j c) j) ((amount_bar X (btoW j c) j).trans (by decide)) () (oweL c l) rfl)
    $$ [HO Ht Hp]
  · isplitr; · iapply (inv_at X K (btoW j c) none); iexact HC
    isplitl [HO]; · iexact HO
    isplitl [Ht]; · iexact Ht
    isplitl [Hp]; · iexact Hp
    iapply (reached_at X K (btoW j c) none); iexact HC
  iintro HO
  iapply Hk
  iexists W
  isplitl [HO]; · iexact HO
  unfold outs toks; rw [sep_nil]; iempintro

theorem rule_bar (l : List Step) (hf : Fits .bar l) : StepRule X K c .bar l := by
  intro α Q kk W
  have hrest : iprop(semVal (barCell c) 0 ∗ bigSep ((sched (F := F) X).duties (barCell c) 0 \ ∅) (fun d => (sched (F := F) X).payload (barCell c) 0 d))
      = toks X c (outs .bar) := by
    rw [rest_bar]
    show _ = bigSepM ((Tok.zero none :: opened.map Tok.hole : List Tok) : Multiset Tok) (tok X c)
    rw [sep_cons, ← Multiset.map_coe]
    unfold bigSepM
    rw [Multiset.map_map]
    rfl
  rw [← hrest, owe_cons]
  simp only [kit, stepOwe, add_zero, prog, semWaitWord, Prog.lift, Prog.bind_op, Prog.bind_ret, Prog.pure_eq_ret]
  iintro ⟨#HC, ⟨Hat, Hcr⟩, HO, -⟩ Hk
  iapply (Rounds.wp_wait_rest_token 𝒱₀ ER (sched X) (c : Thread nD τ) none (κ := K (c, none))
      (wpE_semWait_eq 𝒱₀ (c : Thread nD τ) none Set.univ) (Set.mem_univ _) () (O := oweL c l) (W := W) (R := 0) (m := 0) (T := ∅)
      (by rw [expect_bar]; decide)) $$ [Hcr HO Hat]
  · isplitr; · iapply (inv_at X K c none); iexact HC
    isplitl [Hcr]; · iexact Hcr
    isplitl [HO]; · iexact HO
    isplitr; · iapply (fits_wait X K c none l (hf 1 rfl)); iexact HC
    iexact Hat
  iintro ⟨HO, Hat, -, Hpay⟩
  imod (Rounds.cell_close ER (sched X) (Set.mem_univ (K (c, none))) (fun h => h) (R := 0 + 1) (duties_later X (barCell c))) $$ [Hat] with Hz
  · isplitr; · iapply (inv_at X K c none); iexact HC
    iexact Hat
  iapply Hk
  iexists _
  isplitl [HO]; · iexact HO
  isplitl [Hz] <;> iassumption

theorem rule_rcv (k : Copy) (l : List Step) (hf : Fits (.rcv k) l) : StepRule X K c (.rcv k) l := by
  intro α Q kk W
  have hrest : iprop(semVal (recvCell k c) 0 ∗ payOf X c 0 (some (some (true, k)))) ⊢ toks X c (outs (.rcv k)) := by
    show _ ⊢ bigSepM ((Tok.zero (some (true, k)) :: land k : List Tok) : Multiset Tok) (tok X c)
    rw [sep_cons]
    refine sep_mono_right ?_
    show recvPay X c k ⊢ _
    cases k with
    | z d h =>
      show _ ⊢ bigSepM (([.part (.z d h) (some false), .part (.z d h) (some true)] : List Tok) : Multiset Tok) (tok X c)
      rw [sep_cons, sep_cons, sep_nil]
      exact (pointsTo_share (PosShare.mem_left_op_right fullShare)).1.trans (sep_mono_right Laws.sep_emp.2)
    | xd s h => exact (Entails.of_eq (bigSepM_singleton _ _).symm)
    | yd s h => exact (Entails.of_eq (bigSepM_singleton _ _).symm)
    | xr s => exact (Entails.of_eq (bigSepM_singleton _ _).symm)
    | yr s => exact (Entails.of_eq (bigSepM_singleton _ _).symm)
  rw [owe_cons]
  simp only [kit, stepOwe, add_zero, prog, Prog.lift, Prog.bind_op, Prog.bind_ret, Prog.pure_eq_ret]
  iintro ⟨#HC, ⟨Hat, Hcr⟩, HO, -⟩ Hk
  iapply (Rounds.wp_wait_rest_token 𝒱₀ ER (sched X) (c : Thread nD τ) none (κ := K (c, some (true, k))) (sm := .dma (recvS k)) (k' := N)
      (fun Q => (wpE_waitDma2_eq 𝒱₀ (c : Thread nD τ) none Set.univ Q).trans (by rw [credit_dst])) (Set.mem_univ _) () (O := oweL c l) (W := W) (R := 0) (m := 0) (T := ∅)
      ((Nat.zero_add N).trans (expect_leg X c (true, k)).symm)) $$ [Hcr HO Hat]
  · isplitr; · iapply (inv_at X K c (some (true, k))); iexact HC
    isplitl [Hcr]; · iexact Hcr
    isplitl [HO]; · iexact HO
    isplitr; · iapply (fits_wait X K c (some (true, k)) l (hf _ rfl)); iexact HC
    iexact Hat
  iintro ⟨HO, Hat, -, Hpay⟩
  imod (Rounds.cell_close ER (sched X) (Set.mem_univ (K (c, some (true, k)))) (fun h => h) (R := 0 + 1) (duties_later X (recvCell k c))) $$ [Hat] with Hz
  · isplitr; · iapply (inv_at X K c (some (true, k))); iexact HC
    iexact Hat
  ihave Hpay := (Entails.of_eq (rest_leg X c (true, k))) $$ Hpay
  iapply Hk
  iexists _
  isplitl [HO]; · iexact HO
  iapply hrest
  isplitl [Hz] <;> iassumption

theorem rule_fin (k : Copy) (l : List Step) (hf : Fits (.fin k) l) : StepRule X K c (.fin k) l := by
  intro α Q kk W
  have hin : toks X c (ins (.fin k)) = cred (tallyAt (sendCell k c) () N) := bigSepM_singleton _ _
  have hrest : iprop(semVal (sendCell k c) 0 ∗ payOf X c 0 (some (some (false, k)))) = toks X c (outs (.fin k)) := by
    show _ = bigSepM ((Tok.zero (some (false, k)) :: [srcTok k] : List Tok) : Multiset Tok) (tok X c)
    rw [sep_cons]
    exact congrArg (fun R => iprop(semVal (sendCell k c) 0 ∗ R)) (bigSepM_singleton (srcTok k) (tok X c)).symm
  rw [owe_cons, hin, ← hrest]
  simp only [kit, stepOwe, add_zero, prog, Prog.lift, Prog.bind_op, Prog.bind_ret, Prog.pure_eq_ret]
  iintro ⟨#HC, Hat, HO, Hcr⟩ Hk
  iapply (Rounds.wp_wait_rest_token 𝒱₀ ER (sched X) (c : Thread nD τ) none (κ := K (c, some (false, k))) (sm := .dma (sendS k)) (k' := N)
      (fun Q => (wpE_waitDma2_eq 𝒱₀ (c : Thread nD τ) none Set.univ Q).trans (by rw [credit_src])) (Set.mem_univ _) () (O := oweL c l) (W := W) (R := 0) (m := 0) (T := ∅)
      ((Nat.zero_add N).trans (expect_leg X c (false, k)).symm)) $$ [Hcr HO Hat]
  · isplitr; · iapply (inv_at X K c (some (false, k))); iexact HC
    isplitl [Hcr]; · iexact Hcr
    isplitl [HO]; · iexact HO
    isplitr; · iapply (fits_wait X K c (some (false, k)) l (hf _ rfl)); iexact HC
    iexact Hat
  iintro ⟨HO, Hat, -, Hpay⟩
  imod (Rounds.cell_close ER (sched X) (Set.mem_univ (K (c, some (false, k)))) (fun h => h) (R := 0 + 1) (duties_later X (sendCell k c))) $$ [Hat] with Hz
  · isplitr; · iapply (inv_at X K c (some (false, k))); iexact HC
    iexact Hat
  ihave Hpay := (Entails.of_eq (rest_leg X c (false, k))) $$ Hpay
  iapply Hk
  iexists _
  isplitl [HO]; · iexact HO
  isplitl [Hz] <;> iassumption

/-- The start of a transfer, its source and destination named. -/
theorem wp_snd (k : Copy) (l : List Step) (src dst : Memref sig .tc .vmem S128x512 .f32) (es : srcM k c = src) (ed : dstM k c = dst) {q : PosShare TreeShare}
    (fs : Buf (Elt F) (src.view.loc (c : Thread nD τ))) (fd : Buf (Elt F) (dst.view.loc (toW k c : Thread nD τ)))
    (hp₁ : (src.view.loc (c : Thread nD τ) ↦[src.view.set]{q} fs) ⊢ sendPay X c k)
    (hp₂ : (dst.view.loc (toW k c : Thread nD τ) ↦[dst.view.set]{fullShare} dst.view.write (Elt F) fd (src.view.read (Elt F) fs) Finset.univ) ⊢ recvPay X (toW k c) k)
    {α : Type} {Q : α → sProp 𝕄} {kk : PUnit → Prog (TpuEff nD τ sig (Elt F) Λ₀ .tc) α} (W : Waits sig Unit) :
    iprop(ctx X K ∗ (dutyTok ER (sendCell k c) 0 0 ∗ dutyTok ER (recvCell k (toW k c)) 0 0) ∗ owes (c : Thread nD τ) (oweL c (.snd k :: l)) W
        ∗ (src.view.loc (c : Thread nD τ) ↦[src.view.set]{q} fs) ∗ (dst.view.loc (toW k c : Thread nD τ) ↦[dst.view.set]{fullShare} fd))
      ⊢ iprop(((cred (tallyAt (sendCell k c) () N) ∗ owes (c : Thread nD τ) (oweL c l) W) -∗ WP c (kk ⟨⟩) Q) -∗ WP c (prog c (.snd k) >>= kk) Q) := by
  subst es ed
  rw [owe_cons]
  simp only [stepOwe, prog, Prog.lift, Prog.bind_op, Prog.bind_ret, Prog.pure_eq_ret]
  iintro ⟨#HC, ⟨Ht₁, Ht₂⟩, HO, Hs, Hd⟩ Hk
  iapply (Rounds.wp_send_pointsTo 𝒱₀ ER (sched X) (c : Thread nD τ) none (κ₁ := K (c, some (false, k))) (κ₂ := K (toW k c, some (true, k)))
      (r₁ := 0) (r₂ := 0) (d₁ := 0) (d₂ := 0) (fd := fd) (mem_leg X c (false, k)) (mem_leg X (toW k c) (true, k)) () () N (credit_dst k c)
      (amount_leg X c (false, k) 0) (amount_leg X (toW k c) (true, k) 0) (oweL c l) rfl (W := W)
      (hp₁.trans (Entails.of_eq (payload_cell X c (some (false, k)) 0).symm)) (hp₂.trans (Entails.of_eq (payload_cell X (toW k c) (some (true, k)) 0).symm)))
    $$ [Hs Hd HO Ht₁ Ht₂]
  · isplitr; · iapply (inv_at X K c (some (false, k))); iexact HC
    isplitr; · iapply (inv_at X K (toW k c) (some (true, k))); iexact HC
    isplitl [Hs]; · iexact Hs
    isplitl [Hd]; · iexact Hd
    isplitl [HO]; · iexact HO
    isplitl [Ht₁]; · iexact Ht₁
    isplitr; · iapply (reached_at X K c (some (false, k))); iexact HC
    isplitl [Ht₂]; · iexact Ht₂
    iapply (reached_at X K (toW k c) (some (true, k))); iexact HC
  iexact Hk

omit [FloatOps F] in
/-- A forward reads, at its share, its parent's block where it writes. -/
theorem srcTok_fwd (k : Copy) (hk : fwd k = true) : ∃ q, tok X c (srcTok k) = oPts c (blk k (toW k c)) q (gather X c) := by
  rw [blk_parent k c hk]
  cases k with
  | z d h => cases hk
  | xd s h => exact ⟨_, rfl⟩
  | yd s h => exact ⟨_, rfl⟩
  | xr s => exact ⟨_, rfl⟩
  | yr s => exact ⟨_, rfl⟩

theorem rule_snd (k : Copy) (l : List Step) : StepRule X K c (.snd k) l := by
  intro α Q kk W
  have hin : toks X c (ins (.snd k)) = iprop(tok X c (srcTok k) ∗ ∃ f, oPts (toW k c) (blk k (toW k c)) fullShare f) := by
    show bigSepM ((srcTok k :: [Tok.hole k] : List Tok) : Multiset Tok) (tok X c) = _
    rw [sep_cons]
    exact congrArg (fun R => iprop(tok X c (srcTok k) ∗ R)) (bigSepM_singleton (Tok.hole k) (tok X c))
  have hout : toks X c (outs (.snd k)) = cred (tallyAt (sendCell k c) () N) := bigSepM_singleton _ _
  rw [hin, hout]
  show iprop(_ ∗ (dutyTok ER (sendCell k c) 0 0 ∗ dutyTok ER (recvCell k (toW k c)) 0 0) ∗ _) ⊢ _
  iintro ⟨#HC, Ht, HO, Hs, ⟨%fd, Hd⟩⟩ Hk
  by_cases hk : fwd k = true
  · obtain ⟨q, hq⟩ := srcTok_fwd X c k hk
    ihave Hs := (Entails.of_eq hq) $$ Hs
    unfold oPts
    iapply (wp_snd X K c k l _ _ (srcM_fwd k hk c) (dstM_eq k c) (q := q) (gather X c) fd (Entails.of_eq hq.symm)
      (Entails.of_eq (pointsTo_congr fun i hi => landed_fwd X k hk c fd i hi)) W) $$ [Ht HO Hs Hd]
    · isplitr; · iexact HC
      isplitl [Ht]; · iexact Ht
      isplitl [HO]; · iexact HO
      isplitl [Hs] <;> iassumption
    iintro ⟨Hcr, HO⟩
    iapply Hk
    iexists W
    isplitl [HO] <;> iassumption
  · cases k with
    | z d h =>
      ihave Hs := (Entails.of_eq (show tok X c (srcTok (.z d h)) = ((xS (xRow h c) (xCol d c)).view.loc (c : Thread nD τ)
        ↦[(xS (xRow h c) (xCol d c)).view.set]{fullShare} X c : sProp 𝕄) from rfl)) $$ Hs
      unfold oPts
      iapply (wp_snd X K c (.z d h) l _ _ (srcM_z d h c) (dstM_eq (.z d h) c) (q := fullShare) (X c) fd (Entails.of_eq rfl)
        (Entails.of_eq (pointsTo_congr fun i hi => landed_z X d h c fd i hi)) W) $$ [Ht HO Hs Hd]
      · isplitr; · iexact HC
        isplitl [Ht]; · iexact Ht
        isplitl [HO]; · iexact HO
        isplitl [Hs]; · iexact Hs
        iexact Hd
      iintro ⟨Hcr, HO⟩
      iapply Hk
      iexists W
      isplitl [HO] <;> iassumption
    | xd s h => exact absurd rfl hk
    | yd s h => exact absurd rfl hk
    | xr s => exact absurd rfl hk
    | yr s => exact absurd rfl hk

theorem keep_sub : keepSet c ⊆ xRest c := by
  intro i hi
  refine Finset.mem_sdiff.mpr ⟨Finset.mem_univ i, fun h => ?_⟩
  obtain ⟨⟨d, h'⟩, -, hm⟩ := Finset.mem_biUnion.mp h
  exact z_line d h' c ((mem_xS.mp hm).2.symm.trans (mem_keep.mp hi))

theorem rule_stage (l : List Step) : StepRule X K c .stage l := by
  intro α Q kk W
  have hin : toks X c (ins .stage) = iprop(tok X c .own ∗ tok X c .xrest) := by
    show bigSepM ((Tok.own :: [Tok.xrest] : List Tok) : Multiset Tok) (tok X c) = _
    rw [sep_cons]
    exact congrArg (fun R => iprop(tok X c .own ∗ R)) (bigSepM_singleton Tok.xrest (tok X c))
  have hout : toks X c (outs .stage) = iprop(tok X c .ownDone ∗ tok X c .xrest) := by
    show bigSepM ((Tok.ownDone :: [Tok.xrest] : List Tok) : Multiset Tok) (tok X c) = _
    rw [sep_cons]
    exact congrArg (fun R => iprop(tok X c .ownDone ∗ R)) (bigSepM_singleton Tok.xrest (tok X c))
  have hs : (xM.view.setOn (keepR c).toLoadRect.set) ⊆ xRest c := by
    refine subset_trans (Eq.subset ?_) (keep_sub c)
    exact (View.set_slice (View.whole cc0_stg0_0) (keepR c)).symm.trans (View.set_slice_whole _ _)
  have ho : (oM.view.setOn (ownR c).toLoadRect.set) = ownSet c := (View.set_slice (View.whole cc0_stg1_0) (ownR c)).symm.trans (View.set_slice_whole _ _)
  have ho' : ((oM.access (ownR c)).setOn Finset.univ) = ownSet c := View.set_slice_whole _ _
  have hw : ∀ g : Buf (Elt F) ((c : Thread nD τ).loc cc0_stg1_0), (∀ i ∈ ownSet c, g i = gather X c i) →
      ((((c : Thread nD τ).loc cc0_stg1_0) ↦[ownSet c]{fullShare} g : sProp 𝕄) ⊢ (((c : Thread nD τ).loc cc0_stg1_0) ↦[ownSet c]{fullShare} gather X c)) :=
    fun g hg => Entails.of_eq (pointsTo_congr hg)
  rw [hin, hout, owe_cons]
  simp only [tok, kit, stepOwe, add_zero, prog, Prog.lift, Prog.bind_op, Prog.bind_ret, Prog.pure_eq_ret]
  iintro ⟨#HC, -, HO, ⟨%f, Ho⟩, Hx⟩ Hk
  iapply (wp_load 𝒱₀ (c : Thread nD τ) none Set.univ (m := xM) hs) $$ Hx; iintro Hx
  iapply (wp_load 𝒱₀ (c : Thread nD τ) none Set.univ (m := oM) ho.subset) $$ Ho; iintro Ho
  iapply (wp_store 𝒱₀ (c : Thread nD τ) none Set.univ (m := oM) (r := ownR c) (Mk := Finset.univ) ho'.subset) $$ Ho; iintro Ho
  iapply Hk
  iexists W
  isplitl [HO]; · iexact HO
  isplitl [Ho]
  · iapply (hw _ (landed_own X c f)); iexact Ho
  iexact Hx

/-- Every step has its rule, its wait fitting. -/
theorem rule (s : Step) (l : List Step) (hf : Fits s l) : StepRule X K c s l := by
  cases s with
  | hail j => exact rule_hail X K c j l
  | bar => exact rule_bar X K c l hf
  | snd k => exact rule_snd X K c k l
  | stage => exact rule_stage X K c l
  | rcv k => exact rule_rcv X K c k l hf
  | fin k => exact rule_fin X K c k l hf

/-- A list of steps whose pieces add up from `T` to `R` runs: from the steps' kits, what they owe and the pieces `T`, to nothing owed and
    the pieces `R`. -/
theorem run_steps (l : List Step) : ∀ (T R : List Tok) (h : tally T l = some R) (W : Waits sig Unit) (Q : PUnit → sProp 𝕄),
    iprop(ctx X K ∗ bigSepM (l : Multiset Step) (kit c) ∗ owes (c : Thread nD τ) (oweL c l) W ∗ toks X c T)
      ⊢ iprop(((∃ W' : Waits sig Unit, owes (c : Thread nD τ) 0 W' ∗ toks X c R) -∗ Q ⟨⟩) -∗ WP c (seq c l) Q) := by
  induction l with
  | nil =>
    intro T R h W Q
    cases h
    unfold seq oweL WP
    rw [Prog.pure_eq_ret, wp_ret]
    iintro ⟨-, -, HO, HT⟩ Hk
    imodintro
    iapply Hk
    iexists W
    isplitl [HO] <;> iassumption
  | cons s l ih =>
    intro T R h W Q
    unfold tally at h
    split at h
    case isFalse => cases h
    case isTrue hf =>
      obtain ⟨R', h₁, h₂⟩ := Option.bind_eq_some_iff.mp h
      have hT : toks X c T = iprop(toks X c (ins s) ∗ toks X c R') := by unfold toks; rw [takeAll_spec h₁, sep_append]
      rw [hT, sep_cons]
      show _ ⊢ iprop(_ -∗ WP c (prog c s >>= fun _ => seq c l) Q)
      iintro ⟨#HC, ⟨Hkit, Hkits⟩, HO, Hi, HR⟩ Hk
      iapply (rule X K c s l hf PUnit Q (fun _ => seq c l) W) $$ [Hkit HO Hi]
      · isplitr; · iexact HC
        isplitl [Hkit]; · iexact Hkit
        isplitl [HO] <;> iassumption
      iintro ⟨%W', HO, Ho⟩
      iapply (ih (outs s ++ R') R h₂ W' Q) $$ [Hkits HO Ho HR]
      · isplitr; · iexact HC
        isplitl [Hkits]; · iexact Hkits
        isplitl [HO]; · iexact HO
        unfold toks; rw [sep_append]
        isplitl [Ho] <;> iassumption
      iexact Hk

end Cert.KernelIdeal.A2A

end
-- ==== Proof.Body.lean ====
/-
# The kernel's body on one device

The two staging buffers are cut into the pieces the steps use, the steps run, and the pieces put together again: from any result
buffer and the device's block of `x` to the result `gather`, the block of `x` unchanged, nothing owed and every cell at zero.
-/
module

public import proofs.«01_k».proof.Proof.Rules
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Before and after -/

/-- The halves of the `z` transfers, in a list. -/
def legs : List (Fin 3 × Fin 2) := [(0, 0), (0, 1), (1, 0), (1, 1), (2, 0), (2, 1)]
theorem legs_nodup : legs.Nodup := by decide
theorem mem_legs : ∀ dh, dh ∈ legs := by decide
theorem copies_nodup : copies.Nodup := by decide
theorem mem_copies : ∀ k, k ∈ copies := by decide
theorem cids_nodup : cids.Nodup := by decide +kernel
theorem mem_cids : ∀ i, i ∈ cids := by decide +kernel

/-- The pieces the body starts from: its own rows, the blocks it receives, and `x` in the pieces it sends and the rest. -/
def first : List Tok := .own :: .xrest :: (copies.map .mine ++ legs.map fun dh => .xsrc dh.1 dh.2)
/-- The pieces it ends with: its own rows and every block filled, `x` again, every cell at zero. -/
def last : List Tok := .ownDone :: .xrest :: (copies.flatMap land ++ ((legs.map fun dh => .xsrc dh.1 dh.2) ++ cids.map .zero))

theorem tally_isPerm : (tally first allSteps).map (fun R => R.isPerm last) = some true := by decide +kernel

/-- The kernel's steps find their pieces, their waits fit, and they end with `last`. -/
theorem tally_all : ∃ R, tally first allSteps = some R ∧ (R : Multiset Tok) = (last : Multiset Tok) := by
  have h := tally_isPerm
  rcases hR : tally first allSteps with _ | R
  · rw [hR] at h; cases h
  · rw [hR] at h
    exact ⟨R, rfl, Multiset.coe_eq_coe.mpr (List.isPerm_iff.mp (Option.some.inj h))⟩

theorem sep_map {M : Type} [URA M] {I J : Type} (f : I → J) (l : List I) (Φ : J → sProp M) :
    bigSepM ((l.map f : List J) : Multiset J) Φ = bigSepM (l : Multiset I) fun i => Φ (f i) := by
  induction l with
  | nil => rfl
  | cons i l ih => rw [List.map_cons, sep_cons, sep_cons, ih]

/-! ## Cutting the buffers -/

variable (X : Dev nD → (cc0_stg0_0 : Ref sig .tc).ty.Contents (Elt F)) (c : Dev nD)

/-- The result's elements are the device's own rows and, for each transfer into it, a block. -/
theorem out_sdiff : (Finset.univ : Finset S4096x512.Idx) \ ownSet c = Finset.univ.biUnion fun k : Copy => (oS (blk k c)).view.set := by
  ext i
  rw [Finset.mem_sdiff, mem_own, Finset.mem_biUnion]
  have h0 : (i 0).val < 4096 := (i 0).isLt
  constructor
  · rintro ⟨-, h⟩
    rcases blk_cover c ⟨(i 0).val / 128, by omega⟩ with h' | ⟨k, hk⟩
    · exact absurd (show (i 0).val / 1024 = c.val % 4 by rw [← h']; show _ = (i 0).val / 128 / 8; omega) h
    · exact ⟨k, Finset.mem_univ k, mem_oS.mpr (congrArg Fin.val hk).symm⟩
  · rintro ⟨k, -, hk⟩
    have hk' := mem_oS.mp hk
    have := blk_own k c
    exact ⟨Finset.mem_univ i, fun h => this (by rw [← hk', ← h]; omega)⟩

omit [FloatOps F] in
theorem out_cut (f : Buf (Elt F) ((c : Thread nD τ).loc cc0_stg1_0)) :
    ((((c : Thread nD τ).loc cc0_stg1_0) ↦{fullShare} f : sProp 𝕄)
      = iprop((((c : Thread nD τ).loc cc0_stg1_0) ↦[ownSet c]{fullShare} f) ∗ bigSep Finset.univ fun k : Copy => oPts c (blk k c) fullShare f)) := by
  have hs := pointsTo_split_subset (ℓ := (c : Thread nD τ).loc cc0_stg1_0) (q := fullShare) (f := f) (Ix := Unit) (Name := ℕ) (U := UU) (Lvl := ℕ) (Finset.subset_univ (ownSet c))
  refine (Idealize.SL.BI.Entails.antisymm hs.1 hs.2).trans ?_
  congr 1
  refine (congrArg (fun S => (((c : Thread nD τ).loc cc0_stg1_0) ↦[S]{fullShare} f : sProp 𝕄)) (out_sdiff c)).trans ?_
  exact pointsTo_biUnion _ _ fun k _ k' _ hne => Finset.disjoint_left.mpr fun i h h' =>
    hne (blk_inj c k k' (Fin.ext ((mem_oS.mp h).symm.trans (mem_oS.mp h'))))

omit [FloatOps F] in
theorem x_cut :
    ((((c : Thread nD τ).loc cc0_stg0_0) ↦{fullShare} X c : sProp 𝕄)
      = iprop((bigSep Finset.univ fun dh : Fin 3 × Fin 2 => xPts X c (xRow dh.2 c) (xCol dh.1 c)) ∗ (((c : Thread nD τ).loc cc0_stg0_0) ↦[xRest c]{fullShare} X c))) := by
  have hs := pointsTo_split_subset (ℓ := (c : Thread nD τ).loc cc0_stg0_0) (q := fullShare) (f := X c) (Ix := Unit) (Name := ℕ) (U := UU) (Lvl := ℕ)
    (Finset.subset_univ (Finset.univ.biUnion fun dh : Fin 3 × Fin 2 => (xS (xRow dh.2 c) (xCol dh.1 c)).view.set : Finset S1024x2048.Idx))
  refine (Idealize.SL.BI.Entails.antisymm hs.1 hs.2).trans ?_
  congr 1
  exact pointsTo_biUnion _ _ fun a _ b _ hne => Finset.disjoint_left.mpr fun i h h' => hne (by
    obtain ⟨h1, h2⟩ := mem_xS.mp h
    obtain ⟨h1', h2'⟩ := mem_xS.mp h'
    obtain ⟨e1, e2⟩ := x_inj c a.1 a.2 b.1 b.2 (Fin.ext (h1.symm.trans h1')) (Fin.ext (h2.symm.trans h2'))
    exact Prod.ext e1 e2)

omit [FloatOps F] in
theorem tok_own : tok X c .own = iprop(∃ f : Buf (Elt F) ((c : Thread nD τ).loc cc0_stg1_0), ((c : Thread nD τ).loc cc0_stg1_0) ↦[ownSet c]{fullShare} f) := rfl
omit [FloatOps F] in
theorem tok_ownDone : tok X c .ownDone = (((c : Thread nD τ).loc cc0_stg1_0) ↦[ownSet c]{fullShare} gather X c) := rfl
omit [FloatOps F] in
theorem tok_xrest : tok X c .xrest = (((c : Thread nD τ).loc cc0_stg0_0) ↦[xRest c]{fullShare} X c) := rfl

omit [FloatOps F] in
theorem mine_intro (f : Buf (Elt F) ((c : Thread nD τ).loc cc0_stg1_0)) :
    (bigSep Finset.univ fun k : Copy => (oPts c (blk k c) fullShare f : sProp 𝕄)) ⊢ bigSep Finset.univ fun k : Copy => tok X c (.mine k) :=
  bigSep_mono fun k _ => by
    show _ ⊢ iprop(∃ f, oPts c (blk k c) fullShare f)
    iintro H; iexists f; iexact H

omit [FloatOps F] in
theorem first_intro :
    iprop((∃ f : Buf (Elt F) ((c : Thread nD τ).loc cc0_stg1_0), ((c : Thread nD τ).loc cc0_stg1_0) ↦{fullShare} f) ∗ (((c : Thread nD τ).loc cc0_stg0_0) ↦{fullShare} X c))
      ⊢ toks X c first := by
  unfold toks first
  rw [sep_cons, sep_cons, sep_append, sep_map, sep_map, sep_univ copies_nodup mem_copies, sep_univ legs_nodup mem_legs, x_cut, tok_own, tok_xrest]
  iintro ⟨⟨%f, Ho⟩, Hx, Hr⟩
  ihave Ho := (Entails.of_eq (out_cut c f)) $$ Ho
  icases Ho with ⟨Hown, Hb⟩
  isplitl [Hown]; · iexists f; iexact Hown
  isplitl [Hr]; · iexact Hr
  isplitl [Hb]
  · iapply (mine_intro X c f); iexact Hb
  iexact Hx

omit [FloatOps F] in
/-- What a received block leaves is the block, whole. -/
theorem land_join (k : Copy) : bigSepM (land k : Multiset Tok) (tok X c) ⊢ oPts c (blk k c) fullShare (gather X c) := by
  cases k with
  | z d h =>
    show bigSepM (([.part (.z d h) (some false), .part (.z d h) (some true)] : List Tok) : Multiset Tok) (tok X c) ⊢ _
    rw [sep_cons, sep_cons, sep_nil]
    exact (sep_mono_right Laws.sep_emp.1).trans (pointsTo_share (PosShare.mem_left_op_right fullShare)).2
  | xd s h => exact Entails.of_eq (bigSepM_singleton _ _)
  | yd s h => exact Entails.of_eq (bigSepM_singleton _ _)
  | xr s => exact Entails.of_eq (bigSepM_singleton _ _)
  | yr s => exact Entails.of_eq (bigSepM_singleton _ _)

omit [FloatOps F] in
theorem lands_join :
    (bigSep Finset.univ fun k : Copy => bigSepM (land k : Multiset Tok) (tok X c)) ⊢ bigSep Finset.univ fun k : Copy => oPts c (blk k c) fullShare (gather X c) :=
  bigSep_mono fun k _ => land_join X c k

omit [FloatOps F] in
theorem last_elim :
    toks X c last ⊢ iprop((((c : Thread nD τ).loc cc0_stg1_0) ↦{fullShare} gather X c) ∗ (((c : Thread nD τ).loc cc0_stg0_0) ↦{fullShare} X c)
      ∗ bigSep Finset.univ fun i : Cid => semVal (cell c i) 0) := by
  unfold toks last
  rw [sep_cons, sep_cons, sep_append, sep_append, sep_map, sep_map, sep_flatMap, sep_univ copies_nodup mem_copies, sep_univ legs_nodup mem_legs,
    sep_univ cids_nodup mem_cids, x_cut, out_cut, tok_ownDone, tok_xrest]
  iintro ⟨Hown, Hr, Hb, Hx, Hz⟩
  isplitl [Hown Hb]
  · isplitl [Hown]; · iexact Hown
    iapply (lands_join X c); iexact Hb
  isplitl [Hx Hr]
  · isplitl [Hx]; · iexact Hx
    iexact Hr
  iexact Hz

/-! ## The body -/

variable (K : Dev nD × Cid → ℕ)

/-- The body's run. -/
theorem run_body (W : Waits sig Unit) (Q : PUnit → sProp 𝕄) :
    iprop(ctx X K ∗ bigSepM (allSteps : Multiset Step) (kit c) ∗ owes (c : Thread nD τ) (oweL c allSteps) W
        ∗ (∃ f : Buf (Elt F) ((c : Thread nD τ).loc cc0_stg1_0), ((c : Thread nD τ).loc cc0_stg1_0) ↦{fullShare} f) ∗ (((c : Thread nD τ).loc cc0_stg0_0) ↦{fullShare} X c))
      ⊢ iprop(((∃ W' : Waits sig Unit, owes (c : Thread nD τ) 0 W') ∗ (((c : Thread nD τ).loc cc0_stg1_0) ↦{fullShare} gather X c)
            ∗ (((c : Thread nD τ).loc cc0_stg0_0) ↦{fullShare} X c) ∗ (bigSep Finset.univ fun i : Cid => semVal (cell c i) 0) -∗ Q ⟨⟩)
          -∗ WP c (seq c allSteps) Q) := by
  obtain ⟨R, hR, hp⟩ := tally_all
  have hl : toks X c R ⊢ toks X c last := by unfold toks; rw [hp]
  iintro ⟨#HC, Hk, HO, Hb⟩ HQ
  ihave Ht := (first_intro X c) $$ Hb
  iapply (run_steps X K c allSteps first R hR W Q) $$ [Hk HO Ht]
  · isplitr; · iexact HC
    isplitl [Hk]; · iexact Hk
    isplitl [HO] <;> iassumption
  iintro ⟨%W', HO, HT⟩
  iapply HQ
  isplitl [HO]; · iexists W'; iexact HO
  iapply (last_elim X c); iapply hl; iexact HT

end Cert.KernelIdeal.A2A

end
-- ==== Proof.Deal.lean ====
/-
# Dealing out the protocol

What a device needs to run its steps, from what the launch can give: the duty tokens go from the device whose cell they belong to
to the device that pays them; the credits for the units all devices owe at launch go to the device they are owed to; the cells'
invariants are allocated for all devices at once.
-/
module

public import proofs.«01_k».proof.Proof.Body

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → (cc0_stg0_0 : Ref sig .tc).ty.Contents (Elt F))

/-! ## Rearranging -/

section Arrange
variable {M : Type} [URA M]

/-- Over a device's cells: the barrier, the departures, the arrivals. -/
theorem sep_cid (Φ : Cid → sProp M) :
    bigSep Finset.univ Φ = iprop(Φ none ∗ (bigSep Finset.univ fun k => Φ (some (false, k))) ∗ bigSep Finset.univ fun k => Φ (some (true, k))) := by
  rw [← sep_univ cids_nodup mem_cids, show cids = none :: ((copies.map fun k => some (false, k)) ++ (copies.map fun k => some (true, k))) from rfl,
    sep_cons, sep_append, sep_map, sep_map, sep_univ copies_nodup mem_copies, sep_univ copies_nodup mem_copies]

/-- Over a device's transfers' legs: the departures, the arrivals. -/
theorem sep_leg (Φ : Leg → sProp M) :
    bigSep Finset.univ Φ = iprop((bigSep Finset.univ fun k => Φ (false, k)) ∗ bigSep Finset.univ fun k => Φ (true, k)) := by
  rw [← sep_univ (l := (copies.map fun k => ((false, k) : Leg)) ++ (copies.map fun k => ((true, k) : Leg))) (by decide +kernel) (by decide +kernel),
    sep_append, sep_map, sep_map, sep_univ copies_nodup mem_copies, sep_univ copies_nodup mem_copies]

theorem sep_swap {I J : Type} [Fintype I] [Fintype J] [DecidableEq I] [DecidableEq J] (Φ : I → J → sProp M) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I), bigSep_univ_prod]
  rfl

/-- Over all devices, each of a family may be taken at another device, one for one. -/
theorem sep_around {I : Type} [Fintype I] [DecidableEq I] (e : I → Dev nD ≃ Dev nD) (Φ : I → Dev nD → sProp M) :
    (bigSep Finset.univ fun c => bigSep Finset.univ fun i => Φ i c) = bigSep Finset.univ fun c => bigSep Finset.univ fun i => Φ i (e i c) := by
  rw [sep_swap, bigSep_congr fun i _ => bigSep_univ_equiv (e i) (Φ i), sep_swap]

/-- What may be had again and again is there for every one of a family. -/
theorem sep_share {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ := by
  have h1 : iprop(R ∗ bigSep S Φ) ⊢ iprop(bigSep S (fun _ => R) ∗ bigSep S Φ) := sep_mono_left (BI.bigSep_of_persistent S R)
  refine h1.trans ?_
  rw [← bigSep_sep']
  exact bigSep_mono h

end Arrange

/-! ## The steps' kits -/

/-- The steps, by kind. -/
def byKind : List Step :=
  ([0, 1, 2, 3, 4] : List D).map .hail ++ (.bar :: .stage :: (copies.map .snd ++ (copies.map .rcv ++ copies.map .fin)))

theorem byKind_perm : (allSteps : Multiset Step) = (byKind : Multiset Step) :=
  Multiset.coe_eq_coe.mpr (List.isPerm_iff.mp (by decide +kernel))

/-- What a device's steps use up. -/
theorem kits_eq (c : Dev nD) :
    (bigSepM (allSteps : Multiset Step) (kit (F := F) c) : sProp 𝕄)
      = iprop((bigSep Finset.univ fun j : D => dutyTok ER (barCell (btoW j c)) 0 j)
          ∗ iprop(atPos ER (barCell c) 0 ∅ 0 ∗ cred (tallyAt (barCell c) () 5)) ∗ emp
          ∗ (bigSep Finset.univ fun k : Copy => iprop(dutyTok ER (sendCell k c) 0 0 ∗ dutyTok ER (recvCell k (toW k c)) 0 0))
          ∗ (bigSep Finset.univ fun k : Copy => iprop(atPos ER (recvCell k c) 0 ∅ 0 ∗ cred (tallyAt (recvCell k c) () N)))
          ∗ bigSep Finset.univ fun k : Copy => atPos ER (sendCell k c) 0 ∅ 0) := by
  rw [byKind_perm, byKind, sep_append, sep_cons, sep_cons, sep_append, sep_append, sep_map, sep_map, sep_map, sep_map,
    sep_univ (by decide) (by decide), sep_univ copies_nodup mem_copies, sep_univ copies_nodup mem_copies, sep_univ copies_nodup mem_copies]
  rfl

/-! ## The duty tokens -/

/-- The tokens of a device's own cells: one per barrier signal, one per leg. -/
abbrev tokOf (ct : Dev nD × (D ⊕ Leg)) : GSem nD τ sig × ℕ × D := match ct.2 with
  | .inl j => (barCell ct.1, 0, j)
  | .inr l => (cell ct.1 (some l), 0, 0)

theorem tokOf_injective : Function.Injective tokOf := by
  rintro ⟨c, j | l⟩ ⟨c', j' | l'⟩ h
  · obtain ⟨rfl, -⟩ := cell_inj (congrArg Prod.fst h)
    have : j = j' := congrArg (fun x : GSem nD τ sig × ℕ × D => x.2.2) h
    rw [this]
  · exact absurd (cell_inj (congrArg Prod.fst h)).2 (by simp)
  · exact absurd (cell_inj (congrArg Prod.fst h)).2 (by simp)
  · obtain ⟨rfl, h'⟩ := cell_inj (congrArg Prod.fst h)
    rw [Option.some.inj h']

theorem kcell_injective : Function.Injective fun ci : Dev nD × Cid => cell ci.1 ci.2 := by
  rintro ⟨c, i⟩ ⟨c', i'⟩ h
  obtain ⟨rfl, rfl⟩ := cell_inj h
  rfl

def allCells : Finset (GSem nD τ sig) := Finset.univ.map ⟨_, kcell_injective⟩
def allToks : Finset (GSem nD τ sig × ℕ × D) := Finset.univ.map ⟨_, tokOf_injective⟩

/-- The tokens of a device's own cells. -/
def ownToks (c : Dev nD) : sProp 𝕄 :=
  iprop((bigSep Finset.univ fun j : D => dutyTok ER (barCell c) 0 j)
    ∗ (bigSep Finset.univ fun k : Copy => dutyTok ER (sendCell k c) 0 0) ∗ bigSep Finset.univ fun k : Copy => dutyTok ER (recvCell k c) 0 0)
/-- The tokens of the duties a device pays. -/
def payToks (c : Dev nD) : sProp 𝕄 :=
  iprop((bigSep Finset.univ fun j : D => dutyTok ER (barCell (btoW j c)) 0 j)
    ∗ (bigSep Finset.univ fun k : Copy => dutyTok ER (sendCell k c) 0 0) ∗ bigSep Finset.univ fun k : Copy => dutyTok ER (recvCell k (toW k c)) 0 0)

omit [FloatOps F] in
theorem toks_around : (bigSep Finset.univ fun c : Dev nD => (ownToks c : sProp 𝕄)) = bigSep Finset.univ fun c : Dev nD => payToks c := by
  unfold ownToks payToks
  rw [bigSep_sep', bigSep_sep', bigSep_sep', bigSep_sep',
    sep_around btoE (fun (j : D) c => (dutyTok ER (barCell c) 0 j : sProp 𝕄)),
    sep_around toE (fun (k : Copy) c => (dutyTok ER (recvCell k c) 0 0 : sProp 𝕄))]
  rfl

/-! ## The launch credit -/

/-- What a device owes at launch. -/
def O₀ (c : Dev nD) : CellTallies nD τ sig Unit := oweL c allSteps

/-- Whether a step adds to the `i`-th cell of some device. -/
def hit (i : Cid) : Step → Bool
  | .hail _ => decide (i = none)
  | .snd k => decide (i = some (true, k))
  | _ => false
/-- The units it adds. -/
def amt : Cid → ℕ
  | none => 1
  | some _ => N
/-- How many steps of all devices add to a device's `i`-th cell. -/
def hits : Cid → ℕ
  | none => 5
  | some (false, _) => 0
  | some (true, _) => 1

theorem hits_eq : ∀ i, allSteps.countP (hit i) = hits i := by decide +kernel

/-- A step taken by all devices adds to a device's cell once or not at all. -/
theorem sum_stepOwe (s : Step) (e : Dev nD) (i : Cid) : ∑ d : Dev nD, stepOwe d s (cell e i) () = if hit i s then amt i else 0 := by
  cases s with
  | hail j =>
    by_cases h : i = none
    · subst h
      have hd (d : Dev nD) : stepOwe d (.hail j) (cell e none) () = if d = bfrm j e then 1 else 0 := by
        rw [stepOwe, tallyAt_apply]
        by_cases hd : d = bfrm j e
        · rw [hd, btoW_bfrm, if_pos ⟨rfl, rfl⟩, if_pos rfl]
        · rw [if_neg (fun ⟨h1, _⟩ => hd (by rw [(cell_inj h1).1, bfrm_btoW])), if_neg hd]
      rw [Finset.sum_congr rfl fun d _ => hd d, Finset.sum_ite_eq' Finset.univ (bfrm j e) fun _ => 1, if_pos (Finset.mem_univ _)]
      rfl
    · rw [Finset.sum_eq_zero fun d _ => by rw [stepOwe, tallyAt_apply, if_neg fun ⟨h1, _⟩ => h (cell_inj h1).2]]
      rw [show hit i (.hail j) = false from decide_eq_false h]; rfl
  | snd k =>
    by_cases h : i = some (true, k)
    · subst h
      have hd (d : Dev nD) : stepOwe d (.snd k) (cell e (some (true, k))) () = if d = frm k e then N else 0 := by
        rw [stepOwe, tallyAt_apply]
        by_cases hd : d = frm k e
        · rw [hd, toW_frm, if_pos ⟨rfl, rfl⟩, if_pos rfl]
        · rw [if_neg (fun ⟨h1, _⟩ => hd (by rw [(cell_inj h1).1, frm_toW])), if_neg hd]
      rw [Finset.sum_congr rfl fun d _ => hd d, Finset.sum_ite_eq' Finset.univ (frm k e) fun _ => N, if_pos (Finset.mem_univ _),
        show hit (some (true, k)) (.snd k) = true from decide_eq_true rfl]
      rfl
    · rw [Finset.sum_eq_zero fun d _ => by rw [stepOwe, tallyAt_apply, if_neg fun ⟨h1, _⟩ => h (cell_inj h1).2]]
      rw [show hit i (.snd k) = false from decide_eq_false h]; rfl
  | bar => exact Finset.sum_eq_zero fun d _ => rfl
  | stage => exact Finset.sum_eq_zero fun d _ => rfl
  | rcv k => exact Finset.sum_eq_zero fun d _ => rfl
  | fin k => exact Finset.sum_eq_zero fun d _ => rfl

theorem sum_oweL (l : List Step) (e : Dev nD) (i : Cid) : ∑ d : Dev nD, oweL d l (cell e i) () = l.countP (hit i) * amt i := by
  induction l with
  | nil => rw [List.countP_nil, Nat.zero_mul]; exact Finset.sum_eq_zero fun d _ => rfl
  | cons s l ih =>
    have hs (d : Dev nD) : oweL d (s :: l) (cell e i) () = oweL d l (cell e i) () + stepOwe d s (cell e i) () := by
      rw [oweL, Pi.add_apply, Finsupp.add_apply]
    rw [Finset.sum_congr rfl fun d _ => hs d, Finset.sum_add_distrib, ih, sum_stepOwe, List.countP_cons, Nat.add_mul]
    congr 1
    split <;> simp

omit [FloatOps F] in
/-- What all devices owe a device's cell at launch. -/
theorem launch_cell (c : Dev nD) (i : Cid) :
    tallyOn (cell c i) (launchCredit (Pipeline.owing O₀) 0 (cell c i)) = (tallyAt (cell c i) () (hits i * amt i) : CellTallies nD τ sig Unit) := by
  unfold tallyAt; refine congrArg _ (Finsupp.ext fun u => ?_); cases u
  rw [Pipeline.launchCredit_owing, Finsupp.single_eq_same, ← hits_eq, ← sum_oweL]; rfl

omit [FloatOps F] in
theorem creds (c : Dev nD) :
    (Pipeline.launchCred O₀ c : sProp 𝕄)
      ⊢ iprop(cred (tallyAt (barCell c) () 5) ∗ bigSep Finset.univ fun k : Copy => cred (tallyAt (recvCell k c) () N)) := by
  have hinj : Function.Injective csem := fun _ _ h => csem_inj h
  unfold Pipeline.launchCred
  refine (BI.bigSep_subset (Finset.subset_univ (Finset.univ.map ⟨csem, hinj⟩))).trans ?_
  rw [bigSep_map]
  show (bigSep Finset.univ fun i : Cid => (cred (tallyOn (cell c i) (launchCredit (Pipeline.owing O₀) 0 (cell c i))) : sProp 𝕄)) ⊢ _
  rw [bigSep_congr fun i _ => congrArg cred (launch_cell c i), sep_cid]
  iintro ⟨H1, -, H2⟩
  isplitl [H1]; · iexact H1
  iapply (Entails.of_eq (show (bigSep Finset.univ fun k : Copy => (cred (tallyAt (recvCell k c) () (1 * N)) : sProp 𝕄))
    = bigSep Finset.univ fun k : Copy => cred (tallyAt (recvCell k c) () N) from by rw [Nat.one_mul]))
  iexact H2

/-! ## Allocating the cells -/

theorem ownSemFacts : Pipeline.OwnSemFacts cfg0.spec osem := by decide +kernel

/-- The protocol's part of the launch element. -/
def u₁ : UB := initOf allCells allToks

/-- What the launch element deals a device. -/
def G (c : Dev nD) : sProp 𝕄 :=
  iprop((bigSep Finset.univ fun i : Cid => roundState ER (sched X) (cell c i) 0)
    ∗ (bigSep Finset.univ fun i : Cid => iprop(atPos ER (cell c i) 0 ∅ 0 ∗ reached ER (cell c i) 0)) ∗ ownToks c)

omit [FloatOps F] in
theorem own_toks (c : Dev nD) :
    (bigSep Finset.univ fun t : D ⊕ Leg => (dutyTok ER (tokOf (c, t)).1 (tokOf (c, t)).2.1 (tokOf (c, t)).2.2 : sProp 𝕄)) = ownToks c := by
  rw [BI.bigSep_univ_sum, sep_leg]; rfl

omit [FloatOps F] in
theorem fund_all : BI.own (ER u₁) ⊢ (|==> bigSep Finset.univ (G X) : sProp 𝕄) := by
  have hX (Φ : GSem nD τ sig → sProp 𝕄) : bigSep allCells Φ = bigSep Finset.univ fun c : Dev nD => bigSep Finset.univ fun i : Cid => Φ (cell c i) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => own_toks c
  unfold u₁
  iintro HX
  imod (Rounds.fund ER (sched X) allCells allToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- A device's semaphores at zero are its cells at zero. -/
theorem sems_eq (c : Dev nD) :
    (bigSep Finset.univ fun i : Cid => semVal (cell c i) 0 : sProp 𝕄)
      = iprop(unscopedSems0 c ∗ Pipeline.ownSems0 (Ix := Unit) (Name := ℕ) (U := UU) (Lvl := ℕ) (Val := Elt F) (τ := τ) osem c) := by
  rw [unscopedSems0_eq, sep_cid]; unfold Pipeline.ownSems0; rw [sep_leg]

omit [FloatOps F] in
theorem cells_alloc (c : Dev nD) :
    iprop((bigSep Finset.univ fun i : Cid => semVal (cell c i) 0) ∗ bigSep Finset.univ fun i : Cid => roundState ER (sched X) (cell c i) 0)
      ⊢ (|={Set.univ}=> bigSep Finset.univ fun i : Cid => iprop(∃ κ : ℕ, cellInv ER (sched X) κ (cell c i)) : sProp 𝕄) := by
  rw [← bigSep_sep']
  exact (bigSep_mono fun i _ => (Rounds.body_intro ER (sched X) (cell c i)).trans inv_alloc).trans (bigSep_fupd _ _)

omit [FloatOps F] in
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun i : Cid => iprop(∃ κ : ℕ, cellInv ER (sched X) κ (cell c i)))
          ∗ (bigSep Finset.univ fun i : Cid => iprop(atPos ER (cell c i) 0 ∅ 0 ∗ reached ER (cell c i) 0)) ∗ ownToks c) := by
  unfold G
  iintro ⟨Hos, Hus, Hst, Hat, Htok⟩
  ihave Hv := (Entails.of_eq (sems_eq (F := F) c).symm) $$ [Hos Hus]
  · isplitl [Hus] <;> iassumption
  imod (cells_alloc X c) $$ [Hv Hst] with Hinv
  · isplitl [Hv] <;> iassumption
  imodintro
  isplitl [Hinv]; · iexact Hinv
  isplitl [Hat] <;> iassumption

/-- What all devices share once the cells are allocated. -/
def shared (K : Dev nD × Cid → ℕ) : sProp 𝕄 :=
  iprop((bigSep Finset.univ fun ci : Dev nD × Cid => cellInv ER (sched X) (K ci) (cell ci.1 ci.2))
    ∗ bigSep Finset.univ fun ci : Dev nD × Cid => reached ER (cell ci.1 ci.2) 0)

instance shared_persistent (K : Dev nD × Cid → ℕ) : BI.Persistent (shared (F := F) X K) := by unfold shared; infer_instance

/-- A device's positions. -/
def positions (c : Dev nD) : sProp 𝕄 := bigSep Finset.univ fun i : Cid => atPos ER (cell c i) 0 ∅ 0

/-- What the global step makes for a device. -/
def G' (c : Dev nD) : sProp 𝕄 := iprop(∃ K, shared X K ∗ positions c ∗ payToks c)

omit [FloatOps F] in
theorem G'_intro (K : Dev nD × Cid → ℕ) (c : Dev nD) : iprop(shared X K ∗ positions c ∗ payToks c) ⊢ G' X c := by
  unfold G'; iintro H; iexists K; iexact H

omit [FloatOps F] in
theorem regroup :
    (bigSep Finset.univ fun c : Dev nD => iprop((bigSep Finset.univ fun i : Cid => iprop(∃ κ : ℕ, cellInv ER (sched X) κ (cell c i)))
          ∗ (bigSep Finset.univ fun i : Cid => iprop(atPos ER (cell c i) 0 ∅ 0 ∗ reached ER (cell c i) 0)) ∗ ownToks c) : sProp 𝕄)
      ⊢ bigSep Finset.univ (G' X) := by
  have hp : iprop((bigSep Finset.univ fun c : Dev nD => (positions c : sProp 𝕄)) ∗ bigSep Finset.univ fun c : Dev nD => payToks c)
      ⊢ bigSep Finset.univ fun c : Dev nD => iprop(positions c ∗ payToks c) := Entails.of_eq (bigSep_sep' _ _ _).symm
  rw [bigSep_sep', bigSep_sep', ← bigSep_univ_prod (fun ci : Dev nD × Cid => iprop(∃ κ : ℕ, cellInv ER (sched X) κ (cell ci.1 ci.2))),
    bigSep_congr (s := Finset.univ) (fun (c : Dev nD) _ => bigSep_sep' Finset.univ (fun i : Cid => (atPos ER (cell c i) 0 ∅ 0 : sProp 𝕄)) (fun i => reached ER (cell c i) 0)),
    bigSep_sep', ← bigSep_univ_prod (fun ci : Dev nD × Cid => (reached ER (cell ci.1 ci.2) 0 : sProp 𝕄)), toks_around]
  iintro ⟨HI, ⟨Hat, #HR⟩, Htok⟩
  ihave HK := (BI.bigSep_exists_pi Finset.univ (fun (ci : Dev nD × Cid) (κ : ℕ) => (cellInv ER (sched X) κ (cell ci.1 ci.2) : sProp 𝕄))) $$ HI
  icases HK with ⟨%K, #HI⟩
  iapply (sep_share (R := shared X K) fun c _ => G'_intro X K c)
  isplitr
  · unfold shared; isplitl; · iexact HI
    iexact HR
  · iapply hp
    isplitl [Hat]; · iexact Hat
    iexact Htok

omit [FloatOps F] in
/-- All devices' semaphores become the cells' invariants. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## A device's steps may run -/

/-- What the body starts from. -/
def start (c : Dev nD) : sProp 𝕄 := iprop(∃ K, ctx X K ∗ bigSepM (allSteps : Multiset Step) (kit c))

/-- The launch's credit and the global step's share are enough. -/
theorem start_of (c : Dev nD) : iprop(levAts L lv ∗ Pipeline.launchCred O₀ c ∗ G' X c) ⊢ start X c := by
  unfold start G' positions payToks
  rw [sep_cid]
  iintro ⟨#HL, Hcr, %K, #HS, ⟨HaB, HaS, HaR⟩, HtB, HtS, HtR⟩
  ihave Hc := (creds (F := F) c) $$ Hcr
  icases Hc with ⟨H5, HN⟩
  iexists K
  isplitr
  · unfold shared ctx; icases HS with ⟨#HI, #HR⟩
    isplitr; · iexact HI
    isplitr; · iexact HR
    iexact HL
  iapply (Entails.of_eq (kits_eq (F := F) c).symm)
  isplitl [HtB]; · iexact HtB
  isplitl [HaB H5]
  · isplitl [HaB] <;> iassumption
  isplitr; · iempintro
  isplitl [HtS HtR]
  · iapply (Entails.of_eq (bigSep_sep' Finset.univ (fun k : Copy => (dutyTok ER (sendCell k c) 0 0 : sProp 𝕄)) (fun k => dutyTok ER (recvCell k (toW k c)) 0 0)).symm)
    isplitl [HtS] <;> iassumption
  isplitl [HaR HN]
  · iapply (Entails.of_eq (bigSep_sep' Finset.univ (fun k : Copy => (atPos ER (recvCell k c) 0 ∅ 0 : sProp 𝕄)) (fun k => cred (tallyAt (recvCell k c) () N))).symm)
    isplitl [HaR] <;> iassumption
  iexact HaS

end Cert.KernelIdeal.A2A

end
-- ==== Proof.Launch.lean ====
/-
# The launch

From any memory whose counters are zero: the cells' invariants are allocated for all devices at once, the duty tokens go to the
devices that pay them, every device runs the body, and the run ends with `x` unchanged, every device's result gathered and every
counter at zero.
-/
module

public import proofs.«01_k».proof.Proof.Body
public import proofs.«01_k».proof.Proof.Deal
public import proofs.«01_k».proof.Proof.Gen.KernelIdeal
public import Idealize.ShloMosaic.Lib.Pipeline.CollectiveSegs

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The block of `x` a device's staging buffer holds once fetched. -/
def xstg (c : Dev nD) : (cc0_stg0_0 : Ref sig .tc).ty.Contents (Elt F) :=
  (win0_0.blk (0 : Fin 1)).view.read (Elt F) ((s₀ m ρ).mem ((c : Thread nD τ).loc main_arg0))

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device ends with: every cell of the device at zero. -/
def zeros (c : Dev nD) : sProp 𝕄 := bigSep Finset.univ fun i : Cid => semVal (cell c i) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gather (xstg m ρ) c
  Φ t := match t with
    | ⟨0, _⟩ => start (xstg m ρ) c
    | ⟨_ + 1, _⟩ => zeros c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(start (xstg m ρ) c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(zeros c ∗ (dats m ρ 0 c).owesAt () t₀.succ ∗ stg c cc0_stg0_0 (xstg m ρ c) ∗ stg c cc0_stg1_0 (gather (xstg m ρ) c))

set_option maxRecDepth 4000 in
theorem body_run (c : Dev nD) : bodyPre m ρ c ⊢ WP c (seq c allSteps) (fun _ => bodyPost m ρ c) := by
  unfold bodyPre
  rw [start]
  iintro ⟨⟨%K, #HC, Hk⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  iapply (run_body (xstg m ρ) c K W (fun _ => bodyPost m ρ c)) $$ [Hk HO Hout Hx]
  · isplitr; · iexact HC
    isplitl [Hk]; · iexact Hk
    isplitl [HO]; · iexact HO
    isplitl [Hout]; · iexists g1; iexact Hout
    iexact Hx
  iintro ⟨⟨%W', HO⟩, Hout, Hx, Hz⟩
  unfold bodyPost Dat.owesAt Pipeline.owesWithin zeros
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 20000 in
/-- The library's obligation of the body, on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body xM (Memref.isWhole_whole _) oM (Memref.isWhole_whole _) cc0_scratch0 cc0_scratch1 cc0_scratch2 cc0_scratch3 cc0_scratch4
      cc0_scratch5 cc0_scratch6 cc0_scratch7 cc0_scratch8 cc0_scratch9) (fun _ => bodyPost m ρ c)
  rw [body_eq]
  simp only [wp_deviceId]
  exact body_run m ρ c

/-! ## The launch's conditions -/

def u₀ : UU := (initOf (Pipeline.cells cfgs cellOf_inj) (Pipeline.launchToks cfgs cellOf_inj), u₁)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop(start (xstg m ρ) c ∗ emp) := by
  iintro ⟨-, Hlev, Hcr, -, HG⟩
  imodintro
  isplitl
  · iapply (start_of (xstg m ρ) c)
    isplitl [Hlev]; · iexact Hlev
    isplitl [Hcr] <;> iassumption
  · iempintro

theorem phi0_intro (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start (xstg m ρ) c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq]
  unfold zeros
  rw [sems_eq]
  iintro ⟨Hu, Ho⟩
  isplitl [Hu]; · iexact Hu
  isplitl [Ho]; · iexact Ho
  iempintro

/-- While fetching and flushing a device may wait: those semaphores lie below all it owes. -/
theorem wait_staging (c : Dev nD) (sm : SemLoc sig) (h : cidOf sm = none) (O : CellTallies nD τ sig Unit) (hO : O = O₀ c ∨ O = 0) :
    (levAts L lv : sProp 𝕄) ⊢ MayWait (c : Thread nD τ) sm () O := by
  have hl : lv ((c : Thread nD τ), sm) () = 0 := by unfold lv; rw [h]
  rcases hO with rfl | rfl
  · exact mayWait c sm allSteps 0 hl (by decide +kernel)
  · exact mayWait c sm [] 0 hl (by decide)

theorem waits (c : Dev nD) : (levAts L lv : sProp 𝕄) ⊢ Pipeline.cellsWaits cfgs (dats m ρ) () 0 c :=
  Pipeline.cellsWaits_intro cfgs (dats m ρ) () 0 c fun w s t =>
    wait_staging c _ (by fin_cases w <;> fin_cases s <;> decide +kernel) _ (by
      rcases t with ⟨_ | _, ht⟩
      · exact Or.inl rfl
      · exact Or.inr rfl)

/-! ## The run -/

/-- What an array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- On the mesh of sixteen devices, for any float values and from any memory with zero counters: every weakly fair execution of
    `@main` ends, and then every device's arrays hold `finalA` and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_all (xstg m ρ)) $$ HX with HG
      imodintro
      isplitl [HP] <;> iassumption)
    (hglob := glob (xstg m ρ))
    (hA := fun _ _ => rfl) (hpf := fun _ k => k.elim0)
    (X := start (xstg m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` is not written. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.A2A

end
-- ==== Proof.Value.lean ====
/-
# The claims

The final arrays of `Launch.run_main` read as blocks of the whole array: `x` is cut by rows into the devices' blocks along the
mesh's last axis, the result by columns, and a device's result is its block of `x` itself.
-/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.Run

@[expose] public section

noncomputable section

namespace Cert.KernelIdeal.A2A

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ## The arrays -/

/-- The block fetched of `x` is the whole buffer. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- After the run the result buffer holds what the body left. -/
theorem finalA_out (c : Dev nD) : finalA m ρ c (1 : Fin 2) = gather (xstg m ρ) c := by
  have whole (f : Buf (Elt F) ((c : Thread nD τ).loc main_v1)) : (win0_1.blk (0 : Fin 1)).view.read (Elt F) f = f :=
    Memref.read_access_unit_zero (Elt F) main_v1 (funext fun a => by fin_cases a <;> decide) (fun a => by fin_cases a <;> decide) f
  refine (whole _).symm.trans ?_
  have step := (dats (F := F) m ρ 0 c).arrAt_succ (1 : Fin 2) (0 : Fin 1)
  rw [show (cfg0.win (1 : Fin 2)).flush (0 : Fin 1) = true from by decide, if_pos rfl] at step
  exact (congrArg ((win0_1.blk (0 : Fin 1)).view.read (Elt F)) step).trans (View.read_write_univ _ _)

/-! ## The blocks -/

/-- A device's coordinate on the mesh's last axis. -/
theorem line_coord : ∀ c : Dev nD, Layout.meshLin [2, 2, 4] c.val [2] = c.val % 4 := by decide

/-- Whoever feeds row `i` has the coordinate naming the block of rows `i` lies in. -/
theorem feeder_line (c : Dev nD) (i : Fin 4096) : (feeder c i).val % 4 = i.val / 1024 := by
  unfold feeder
  split
  · next h => exact h.symm
  · have h := i.isLt
    show (4 * (i.val % 1024 / 256) + i.val / 1024) % 4 = i.val / 1024
    omega

/-- If every device holds its block of rows of an array, a device's result is its block of columns of it. -/
theorem gather_block {α : Type} (V : (⟨2, ![4096, 2048]⟩ : Shape).Idx → α) (c : Dev nD) (i : S4096x512.Idx) :
    Layout.blockN ⟨2, ![1024, 2048]⟩ ⟨2, ![4096, 2048]⟩ (Layout.meshBlock [2, 2, 4] ![[2], []] (feeder c (i 0))) V (by decide) (place c i)
      = Layout.blockN ⟨2, ![4096, 512]⟩ ⟨2, ![4096, 2048]⟩ (Layout.meshBlock [2, 2, 4] ![[], [2]] c) V (by decide) i := by
  rw [Layout.blockN_apply, Layout.blockN_apply]
  congr 1
  have h0 := feeder_line c (i 0)
  have hx := line_coord (feeder c (i 0))
  have hc := line_coord c
  have hi : (i 0).val < 4096 := (i 0).isLt
  funext a
  fin_cases a
  · apply Fin.ext
    show Layout.meshLin [2, 2, 4] (feeder c (i 0)).val [2] * 1024 + (i 0).val % 1024 = 0 * 4096 + (i 0).val
    rw [hx, h0]; omega
  · apply Fin.ext
    show 0 * 2048 + (512 * (c.val % 4) + (i 1).val) = Layout.meshLin [2, 2, 4] c.val [2] * 512 + (i 1).val
    rw [hc]; omega

/-! ## The claims -/

/-- The run, at any float values: it ends with `x` unchanged and every counter at zero. -/
theorem run_frame : θ_run (Cert.KernelIdeal.defs (F := F)) (onTc (τ := τ) (Cert.KernelIdeal.main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run Cert.KernelIdeal.defs _ _).mono (fun _ h => ⟨fun c => (h.1 c (0 : Fin 2)).trans (finalA_x m ρ c), h.2⟩) (run_main m ρ)

/-! The two readings of the kernel are one text, at any float values. -/

set_option maxRecDepth 20000 in
theorem body_same : Cert.Kernel.cc0_body (F := Bits) = Cert.KernelIdeal.cc0_body (F := Bits) := rfl

set_option maxRecDepth 20000 in
theorem table_same : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) =>
    exact congrFun (congrFun (congrFun (congrFun (congrFun (congrFun (congrFun (congrFun (congrFun (congrFun (congrFun (congrFun (congrFun
      (congrFun body_same _) _) _) _) _) _) _) _) _) _) _) _) _) _
  | ⟨_ + 1, h⟩, _ => exact absurd h (Nat.not_lt.2 (Nat.le_add_left _ _))

theorem defs_same : Cert.Kernel.defs (F := Bits) = Cert.KernelIdeal.defs (F := Bits) :=
  congrArg (Pipeline.defs (Cert.KernelIdeal.pcfgs (F := Bits))) table_same

/-- The kernel, bit for bit. -/
theorem frame_kernel : Cert.quiescent_Kernel := fun m ρ _ => by
  rw [defs_same]
  exact run_frame (F := Bits) m ρ

/-- The kernel at the ideal instance. -/
theorem frame_ideal : Cert.quiescent_KernelIdeal := fun m ρ _ => run_frame (F := Ideal) m ρ

/-- The reference returns at once, and changes nothing. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r =>
      ∀ (d : Dev Cert.ReferenceIdeal.nD) (b : Ref Cert.ReferenceIdeal.sig .tc), r.2.mem ((d.tc : Thread _ Cert.ReferenceIdeal.τ).loc b) = m' ((d.tc : Thread _ Cert.ReferenceIdeal.τ).loc b) :=
  (θ_run Cert.ReferenceIdeal.defs _ _).mono (fun _ h d b => h d b)
    (StableHlo.run_seq (by decide) (by decide) Cert.ReferenceIdeal.defs Cert.ReferenceIdeal.main (fun _ => []) (fun _ => rfl) (fun _ => trivial) m' ρ')

/-- The reference leaves its argument unchanged, and it has no counter. -/
theorem frame_reference : Cert.quiescent_ReferenceIdeal := fun m ρ _ =>
  (θ_run Cert.ReferenceIdeal.defs _ _).mono (fun r h => ⟨fun c => h c _, sem_eq_zero_of_no_sems (by decide) r.2⟩) (ref_run m ρ)

/-- Every device's result is its block of the reference's. -/
theorem algebraic : Cert.algebraic_KernelIdeal_ReferenceIdeal := by
  intro m ρ m' ρ' _ hx
  refine ⟨m' (((0 : Dev Cert.ReferenceIdeal.nD).tc : Thread _ Cert.ReferenceIdeal.τ).loc Cert.ReferenceIdeal.main_arg0), ?_, ?_⟩
  · refine (θ_run Cert.KernelIdeal.defs _ _).mono (fun _ h c => ⟨?_, (h.1 c (0 : Fin 2)).trans (finalA_x m ρ c)⟩) (run_main (F := Ideal) m ρ)
    refine (h.1 c (1 : Fin 2)).trans ((finalA_out m ρ c).trans (funext fun i => ?_))
    refine (congrFun ((xstg_eq m ρ (feeder c (i 0))).trans (hx _)) (place c i)).trans ?_
    exact gather_block (m' (((0 : Dev Cert.ReferenceIdeal.nD).tc : Thread _ Cert.ReferenceIdeal.τ).loc Cert.ReferenceIdeal.main_arg0)) c i
  · exact (θ_run Cert.ReferenceIdeal.defs _ _).mono (fun r h => ⟨h 0 _, h 0 _⟩) (ref_run m' ρ')

end Cert.KernelIdeal.A2A

end
-- ==== Proof.lean ====
/-
# The proof of the claim

The kernel at both readings, the reference, and the kernel's results against the reference's: the parts are proved in `Proof/Value`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

open Cert.KernelIdeal.A2A

/-- Everything claimed: the three programs run and leave their arguments unchanged and every counter at zero; the ideal reading
    rewrites nothing; every device's result is its block of the reference's. -/
theorem claim : Cert.Claim := ⟨Cert.Kernel.Gen.facts, Cert.KernelIdeal.Gen.facts, Cert.ReferenceIdeal.Gen.facts,
  frame_kernel, frame_ideal, frame_reference, trivial, algebraic⟩

end Cert.Proof

end
